-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S16x16x256 : Shape := ⟨3, ![16, 16, 256]⟩
abbrev S2x15 : Shape := ⟨2, ![2, 15]⟩
abbrev S_ : Shape := ⟨0, ![]⟩
abbrev S1x1 : Shape := ⟨2, ![1, 1]⟩
abbrev S1x16x256 : Shape := ⟨3, ![1, 16, 256]⟩
abbrev S16x256 : Shape := ⟨2, ![16, 256]⟩

abbrev nBuf : Space → Nat
  | .hbm => 8
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S256x256, .bf16⟩
  | .local _ .vmem, ⟨9, _⟩ => ⟨S16x16x256, .bf16⟩
  | .local _ .vmem, ⟨10, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_159 : BitVec 32 := 0#32
  let c0_i32_160 : BitVec 32 := 0#32
  ![v2.toNat, 0, 0]
def k0_off2 (d0 : Dev nD) (c1_i32_145 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v213 : BitVec 32 := Scalar.addi v2 c1_i32_145
  let c16_i32_146 : BitVec 32 := 16#32
  let c0_i32_147 : BitVec 32 := 0#32
  let v214 : BitVec 1 := Scalar.cmpi .eq c16_i32_146 c0_i32_147
  let c1_i32_148 : BitVec 32 := 1#32
  let v215 : BitVec 32 := Scalar.select v214 c1_i32_148 c16_i32_146
  let v216 : BitVec 32 := Scalar.remsi v213 v215
  let c0_i32_150 : BitVec 32 := 0#32
  let v218 : BitVec 1 := Scalar.cmpi .slt v216 c0_i32_150
  let c0_i32_151 : BitVec 32 := 0#32
  let v219 : BitVec 1 := Scalar.cmpi .slt v215 c0_i32_151
  let v220 : BitVec 1 := Scalar.xori v218 v219
  let c0_i32_149 : BitVec 32 := 0#32
  let v217 : BitVec 1 := Scalar.cmpi .ne v216 c0_i32_149
  let v221 : BitVec 1 := Scalar.andi v220 v217
  let v222 : BitVec 32 := Scalar.addi v216 v215
  let v223 : BitVec 32 := Scalar.select v221 v222 v216
  let c16_i32_152 : BitVec 32 := 16#32
  let v224 : BitVec 32 := Scalar.muli v223 c16_i32_152
  let c0_i32_161 : BitVec 32 := 0#32
  ![v224.toNat, 0]
def k0_dev16 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_145 : BitVec 32 := 1#32
  let v213 : BitVec 32 := Scalar.addi v2 c1_i32_145
  let c16_i32_146 : BitVec 32 := 16#32
  let c0_i32_147 : BitVec 32 := 0#32
  let v214 : BitVec 1 := Scalar.cmpi .eq c16_i32_146 c0_i32_147
  let c1_i32_148 : BitVec 32 := 1#32
  let v215 : BitVec 32 := Scalar.select v214 c1_i32_148 c16_i32_146
  let v216 : BitVec 32 := Scalar.remsi v213 v215
  let c0_i32_150 : BitVec 32 := 0#32
  let v218 : BitVec 1 := Scalar.cmpi .slt v216 c0_i32_150
  let c0_i32_151 : BitVec 32 := 0#32
  let v219 : BitVec 1 := Scalar.cmpi .slt v215 c0_i32_151
  let v220 : BitVec 1 := Scalar.xori v218 v219
  let c0_i32_149 : BitVec 32 := 0#32
  let v217 : BitVec 1 := Scalar.cmpi .ne v216 c0_i32_149
  let v221 : BitVec 1 := Scalar.andi v220 v217
  let v222 : BitVec 32 := Scalar.addi v216 v215
  let v223 : BitVec 32 := Scalar.select v221 v222 v216
  let c1_i32_157 : BitVec 32 := 1#32
  let v225 : BitVec 32 := Scalar.muli v223 c1_i32_157
  let v226 : BitVec 32 := Scalar.addi c0_i32_158 v225
  v226.toNat
def k0_dev17 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_162 : BitVec 32 := 2#32
  let v234 : BitVec 32 := Scalar.addi v2 c2_i32_162
  let c16_i32_163 : BitVec 32 := 16#32
  let c0_i32_164 : BitVec 32 := 0#32
  let v235 : BitVec 1 := Scalar.cmpi .eq c16_i32_163 c0_i32_164
  let c1_i32_165 : BitVec 32 := 1#32
  let v236 : BitVec 32 := Scalar.select v235 c1_i32_165 c16_i32_163
  let v237 : BitVec 32 := Scalar.remsi v234 v236
  let c0_i32_167 : BitVec 32 := 0#32
  let v239 : BitVec 1 := Scalar.cmpi .slt v237 c0_i32_167
  let c0_i32_168 : BitVec 32 := 0#32
  let v240 : BitVec 1 := Scalar.cmpi .slt v236 c0_i32_168
  let v241 : BitVec 1 := Scalar.xori v239 v240
  let c0_i32_166 : BitVec 32 := 0#32
  let v238 : BitVec 1 := Scalar.cmpi .ne v237 c0_i32_166
  let v242 : BitVec 1 := Scalar.andi v241 v238
  let v243 : BitVec 32 := Scalar.addi v237 v236
  let v244 : BitVec 32 := Scalar.select v242 v243 v237
  let c1_i32_174 : BitVec 32 := 1#32
  let v246 : BitVec 32 := Scalar.muli v244 c1_i32_174
  let v247 : BitVec 32 := Scalar.addi c0_i32_175 v246
  v247.toNat
def k0_dev18 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_179 : BitVec 32 := 3#32
  let v255 : BitVec 32 := Scalar.addi v2 c3_i32_179
  let c16_i32_180 : BitVec 32 := 16#32
  let c0_i32_181 : BitVec 32 := 0#32
  let v256 : BitVec 1 := Scalar.cmpi .eq c16_i32_180 c0_i32_181
  let c1_i32_182 : BitVec 32 := 1#32
  let v257 : BitVec 32 := Scalar.select v256 c1_i32_182 c16_i32_180
  let v258 : BitVec 32 := Scalar.remsi v255 v257
  let c0_i32_184 : BitVec 32 := 0#32
  let v260 : BitVec 1 := Scalar.cmpi .slt v258 c0_i32_184
  let c0_i32_185 : BitVec 32 := 0#32
  let v261 : BitVec 1 := Scalar.cmpi .slt v257 c0_i32_185
  let v262 : BitVec 1 := Scalar.xori v260 v261
  let c0_i32_183 : BitVec 32 := 0#32
  let v259 : BitVec 1 := Scalar.cmpi .ne v258 c0_i32_183
  let v263 : BitVec 1 := Scalar.andi v262 v259
  let v264 : BitVec 32 := Scalar.addi v258 v257
  let v265 : BitVec 32 := Scalar.select v263 v264 v258
  let c1_i32_191 : BitVec 32 := 1#32
  let v267 : BitVec 32 := Scalar.muli v265 c1_i32_191
  let v268 : BitVec 32 := Scalar.addi c0_i32_192 v267
  v268.toNat
def k0_dev19 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_196 : BitVec 32 := 4#32
  let v276 : BitVec 32 := Scalar.addi v2 c4_i32_196
  let c16_i32_197 : BitVec 32 := 16#32
  let c0_i32_198 : BitVec 32 := 0#32
  let v277 : BitVec 1 := Scalar.cmpi .eq c16_i32_197 c0_i32_198
  let c1_i32_199 : BitVec 32 := 1#32
  let v278 : BitVec 32 := Scalar.select v277 c1_i32_199 c16_i32_197
  let v279 : BitVec 32 := Scalar.remsi v276 v278
  let c0_i32_201 : BitVec 32 := 0#32
  let v281 : BitVec 1 := Scalar.cmpi .slt v279 c0_i32_201
  let c0_i32_202 : BitVec 32 := 0#32
  let v282 : BitVec 1 := Scalar.cmpi .slt v278 c0_i32_202
  let v283 : BitVec 1 := Scalar.xori v281 v282
  let c0_i32_200 : BitVec 32 := 0#32
  let v280 : BitVec 1 := Scalar.cmpi .ne v279 c0_i32_200
  let v284 : BitVec 1 := Scalar.andi v283 v280
  let v285 : BitVec 32 := Scalar.addi v279 v278
  let v286 : BitVec 32 := Scalar.select v284 v285 v279
  let c1_i32_208 : BitVec 32 := 1#32
  let v288 : BitVec 32 := Scalar.muli v286 c1_i32_208
  let v289 : BitVec 32 := Scalar.addi c0_i32_209 v288
  v289.toNat
def k0_dev20 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_213 : BitVec 32 := 5#32
  let v297 : BitVec 32 := Scalar.addi v2 c5_i32_213
  let c16_i32_214 : BitVec 32 := 16#32
  let c0_i32_215 : BitVec 32 := 0#32
  let v298 : BitVec 1 := Scalar.cmpi .eq c16_i32_214 c0_i32_215
  let c1_i32_216 : BitVec 32 := 1#32
  let v299 : BitVec 32 := Scalar.select v298 c1_i32_216 c16_i32_214
  let v300 : BitVec 32 := Scalar.remsi v297 v299
  let c0_i32_218 : BitVec 32 := 0#32
  let v302 : BitVec 1 := Scalar.cmpi .slt v300 c0_i32_218
  let c0_i32_219 : BitVec 32 := 0#32
  let v303 : BitVec 1 := Scalar.cmpi .slt v299 c0_i32_219
  let v304 : BitVec 1 := Scalar.xori v302 v303
  let c0_i32_217 : BitVec 32 := 0#32
  let v301 : BitVec 1 := Scalar.cmpi .ne v300 c0_i32_217
  let v305 : BitVec 1 := Scalar.andi v304 v301
  let v306 : BitVec 32 := Scalar.addi v300 v299
  let v307 : BitVec 32 := Scalar.select v305 v306 v300
  let c1_i32_225 : BitVec 32 := 1#32
  let v309 : BitVec 32 := Scalar.muli v307 c1_i32_225
  let v310 : BitVec 32 := Scalar.addi c0_i32_226 v309
  v310.toNat
def k0_dev21 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_230 : BitVec 32 := 6#32
  let v318 : BitVec 32 := Scalar.addi v2 c6_i32_230
  let c16_i32_231 : BitVec 32 := 16#32
  let c0_i32_232 : BitVec 32 := 0#32
  let v319 : BitVec 1 := Scalar.cmpi .eq c16_i32_231 c0_i32_232
  let c1_i32_233 : BitVec 32 := 1#32
  let v320 : BitVec 32 := Scalar.select v319 c1_i32_233 c16_i32_231
  let v321 : BitVec 32 := Scalar.remsi v318 v320
  let c0_i32_235 : BitVec 32 := 0#32
  let v323 : BitVec 1 := Scalar.cmpi .slt v321 c0_i32_235
  let c0_i32_236 : BitVec 32 := 0#32
  let v324 : BitVec 1 := Scalar.cmpi .slt v320 c0_i32_236
  let v325 : BitVec 1 := Scalar.xori v323 v324
  let c0_i32_234 : BitVec 32 := 0#32
  let v322 : BitVec 1 := Scalar.cmpi .ne v321 c0_i32_234
  let v326 : BitVec 1 := Scalar.andi v325 v322
  let v327 : BitVec 32 := Scalar.addi v321 v320
  let v328 : BitVec 32 := Scalar.select v326 v327 v321
  let c1_i32_242 : BitVec 32 := 1#32
  let v330 : BitVec 32 := Scalar.muli v328 c1_i32_242
  let v331 : BitVec 32 := Scalar.addi c0_i32_243 v330
  v331.toNat
def k0_dev22 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_247 : BitVec 32 := 7#32
  let v339 : BitVec 32 := Scalar.addi v2 c7_i32_247
  let c16_i32_248 : BitVec 32 := 16#32
  let c0_i32_249 : BitVec 32 := 0#32
  let v340 : BitVec 1 := Scalar.cmpi .eq c16_i32_248 c0_i32_249
  let c1_i32_250 : BitVec 32 := 1#32
  let v341 : BitVec 32 := Scalar.select v340 c1_i32_250 c16_i32_248
  let v342 : BitVec 32 := Scalar.remsi v339 v341
  let c0_i32_252 : BitVec 32 := 0#32
  let v344 : BitVec 1 := Scalar.cmpi .slt v342 c0_i32_252
  let c0_i32_253 : BitVec 32 := 0#32
  let v345 : BitVec 1 := Scalar.cmpi .slt v341 c0_i32_253
  let v346 : BitVec 1 := Scalar.xori v344 v345
  let c0_i32_251 : BitVec 32 := 0#32
  let v343 : BitVec 1 := Scalar.cmpi .ne v342 c0_i32_251
  let v347 : BitVec 1 := Scalar.andi v346 v343
  let v348 : BitVec 32 := Scalar.addi v342 v341
  let v349 : BitVec 32 := Scalar.select v347 v348 v342
  let c1_i32_259 : BitVec 32 := 1#32
  let v351 : BitVec 32 := Scalar.muli v349 c1_i32_259
  let v352 : BitVec 32 := Scalar.addi c0_i32_260 v351
  v352.toNat
def k0_dev23 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_264 : BitVec 32 := 8#32
  let v360 : BitVec 32 := Scalar.addi v2 c8_i32_264
  let c16_i32_265 : BitVec 32 := 16#32
  let c0_i32_266 : BitVec 32 := 0#32
  let v361 : BitVec 1 := Scalar.cmpi .eq c16_i32_265 c0_i32_266
  let c1_i32_267 : BitVec 32 := 1#32
  let v362 : BitVec 32 := Scalar.select v361 c1_i32_267 c16_i32_265
  let v363 : BitVec 32 := Scalar.remsi v360 v362
  let c0_i32_269 : BitVec 32 := 0#32
  let v365 : BitVec 1 := Scalar.cmpi .slt v363 c0_i32_269
  let c0_i32_270 : BitVec 32 := 0#32
  let v366 : BitVec 1 := Scalar.cmpi .slt v362 c0_i32_270
  let v367 : BitVec 1 := Scalar.xori v365 v366
  let c0_i32_268 : BitVec 32 := 0#32
  let v364 : BitVec 1 := Scalar.cmpi .ne v363 c0_i32_268
  let v368 : BitVec 1 := Scalar.andi v367 v364
  let v369 : BitVec 32 := Scalar.addi v363 v362
  let v370 : BitVec 32 := Scalar.select v368 v369 v363
  let c1_i32_276 : BitVec 32 := 1#32
  let v372 : BitVec 32 := Scalar.muli v370 c1_i32_276
  let v373 : BitVec 32 := Scalar.addi c0_i32_277 v372
  v373.toNat
def k0_dev24 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_281 : BitVec 32 := 9#32
  let v381 : BitVec 32 := Scalar.addi v2 c9_i32_281
  let c16_i32_282 : BitVec 32 := 16#32
  let c0_i32_283 : BitVec 32 := 0#32
  let v382 : BitVec 1 := Scalar.cmpi .eq c16_i32_282 c0_i32_283
  let c1_i32_284 : BitVec 32 := 1#32
  let v383 : BitVec 32 := Scalar.select v382 c1_i32_284 c16_i32_282
  let v384 : BitVec 32 := Scalar.remsi v381 v383
  let c0_i32_286 : BitVec 32 := 0#32
  let v386 : BitVec 1 := Scalar.cmpi .slt v384 c0_i32_286
  let c0_i32_287 : BitVec 32 := 0#32
  let v387 : BitVec 1 := Scalar.cmpi .slt v383 c0_i32_287
  let v388 : BitVec 1 := Scalar.xori v386 v387
  let c0_i32_285 : BitVec 32 := 0#32
  let v385 : BitVec 1 := Scalar.cmpi .ne v384 c0_i32_285
  let v389 : BitVec 1 := Scalar.andi v388 v385
  let v390 : BitVec 32 := Scalar.addi v384 v383
  let v391 : BitVec 32 := Scalar.select v389 v390 v384
  let c1_i32_293 : BitVec 32 := 1#32
  let v393 : BitVec 32 := Scalar.muli v391 c1_i32_293
  let v394 : BitVec 32 := Scalar.addi c0_i32_294 v393
  v394.toNat
def k0_dev25 (d0 : Dev nD) : Nat :=
  let c0_i32_311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_298 : BitVec 32 := 10#32
  let v402 : BitVec 32 := Scalar.addi v2 c10_i32_298
  let c16_i32_299 : BitVec 32 := 16#32
  let c0_i32_300 : BitVec 32 := 0#32
  let v403 : BitVec 1 := Scalar.cmpi .eq c16_i32_299 c0_i32_300
  let c1_i32_301 : BitVec 32 := 1#32
  let v404 : BitVec 32 := Scalar.select v403 c1_i32_301 c16_i32_299
  let v405 : BitVec 32 := Scalar.remsi v402 v404
  let c0_i32_303 : BitVec 32 := 0#32
  let v407 : BitVec 1 := Scalar.cmpi .slt v405 c0_i32_303
  let c0_i32_304 : BitVec 32 := 0#32
  let v408 : BitVec 1 := Scalar.cmpi .slt v404 c0_i32_304
  let v409 : BitVec 1 := Scalar.xori v407 v408
  let c0_i32_302 : BitVec 32 := 0#32
  let v406 : BitVec 1 := Scalar.cmpi .ne v405 c0_i32_302
  let v410 : BitVec 1 := Scalar.andi v409 v406
  let v411 : BitVec 32 := Scalar.addi v405 v404
  let v412 : BitVec 32 := Scalar.select v410 v411 v405
  let c1_i32_310 : BitVec 32 := 1#32
  let v414 : BitVec 32 := Scalar.muli v412 c1_i32_310
  let v415 : BitVec 32 := Scalar.addi c0_i32_311 v414
  v415.toNat
def k0_dev26 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_315 : BitVec 32 := 11#32
  let v423 : BitVec 32 := Scalar.addi v2 c11_i32_315
  let c16_i32_316 : BitVec 32 := 16#32
  let c0_i32_317 : BitVec 32 := 0#32
  let v424 : BitVec 1 := Scalar.cmpi .eq c16_i32_316 c0_i32_317
  let c1_i32_318 : BitVec 32 := 1#32
  let v425 : BitVec 32 := Scalar.select v424 c1_i32_318 c16_i32_316
  let v426 : BitVec 32 := Scalar.remsi v423 v425
  let c0_i32_320 : BitVec 32 := 0#32
  let v428 : BitVec 1 := Scalar.cmpi .slt v426 c0_i32_320
  let c0_i32_321 : BitVec 32 := 0#32
  let v429 : BitVec 1 := Scalar.cmpi .slt v425 c0_i32_321
  let v430 : BitVec 1 := Scalar.xori v428 v429
  let c0_i32_319 : BitVec 32 := 0#32
  let v427 : BitVec 1 := Scalar.cmpi .ne v426 c0_i32_319
  let v431 : BitVec 1 := Scalar.andi v430 v427
  let v432 : BitVec 32 := Scalar.addi v426 v425
  let v433 : BitVec 32 := Scalar.select v431 v432 v426
  let c1_i32_327 : BitVec 32 := 1#32
  let v435 : BitVec 32 := Scalar.muli v433 c1_i32_327
  let v436 : BitVec 32 := Scalar.addi c0_i32_328 v435
  v436.toNat
def k0_dev27 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_332 : BitVec 32 := 12#32
  let v444 : BitVec 32 := Scalar.addi v2 c12_i32_332
  let c16_i32_333 : BitVec 32 := 16#32
  let c0_i32_334 : BitVec 32 := 0#32
  let v445 : BitVec 1 := Scalar.cmpi .eq c16_i32_333 c0_i32_334
  let c1_i32_335 : BitVec 32 := 1#32
  let v446 : BitVec 32 := Scalar.select v445 c1_i32_335 c16_i32_333
  let v447 : BitVec 32 := Scalar.remsi v444 v446
  let c0_i32_337 : BitVec 32 := 0#32
  let v449 : BitVec 1 := Scalar.cmpi .slt v447 c0_i32_337
  let c0_i32_338 : BitVec 32 := 0#32
  let v450 : BitVec 1 := Scalar.cmpi .slt v446 c0_i32_338
  let v451 : BitVec 1 := Scalar.xori v449 v450
  let c0_i32_336 : BitVec 32 := 0#32
  let v448 : BitVec 1 := Scalar.cmpi .ne v447 c0_i32_336
  let v452 : BitVec 1 := Scalar.andi v451 v448
  let v453 : BitVec 32 := Scalar.addi v447 v446
  let v454 : BitVec 32 := Scalar.select v452 v453 v447
  let c1_i32_344 : BitVec 32 := 1#32
  let v456 : BitVec 32 := Scalar.muli v454 c1_i32_344
  let v457 : BitVec 32 := Scalar.addi c0_i32_345 v456
  v457.toNat
def k0_dev28 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_349 : BitVec 32 := 13#32
  let v465 : BitVec 32 := Scalar.addi v2 c13_i32_349
  let c16_i32_350 : BitVec 32 := 16#32
  let c0_i32_351 : BitVec 32 := 0#32
  let v466 : BitVec 1 := Scalar.cmpi .eq c16_i32_350 c0_i32_351
  let c1_i32_352 : BitVec 32 := 1#32
  let v467 : BitVec 32 := Scalar.select v466 c1_i32_352 c16_i32_350
  let v468 : BitVec 32 := Scalar.remsi v465 v467
  let c0_i32_354 : BitVec 32 := 0#32
  let v470 : BitVec 1 := Scalar.cmpi .slt v468 c0_i32_354
  let c0_i32_355 : BitVec 32 := 0#32
  let v471 : BitVec 1 := Scalar.cmpi .slt v467 c0_i32_355
  let v472 : BitVec 1 := Scalar.xori v470 v471
  let c0_i32_353 : BitVec 32 := 0#32
  let v469 : BitVec 1 := Scalar.cmpi .ne v468 c0_i32_353
  let v473 : BitVec 1 := Scalar.andi v472 v469
  let v474 : BitVec 32 := Scalar.addi v468 v467
  let v475 : BitVec 32 := Scalar.select v473 v474 v468
  let c1_i32_361 : BitVec 32 := 1#32
  let v477 : BitVec 32 := Scalar.muli v475 c1_i32_361
  let v478 : BitVec 32 := Scalar.addi c0_i32_362 v477
  v478.toNat
def k0_dev29 (d0 : Dev nD) : Nat :=
  let c0_i32_379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_366 : BitVec 32 := 14#32
  let v486 : BitVec 32 := Scalar.addi v2 c14_i32_366
  let c16_i32_367 : BitVec 32 := 16#32
  let c0_i32_368 : BitVec 32 := 0#32
  let v487 : BitVec 1 := Scalar.cmpi .eq c16_i32_367 c0_i32_368
  let c1_i32_369 : BitVec 32 := 1#32
  let v488 : BitVec 32 := Scalar.select v487 c1_i32_369 c16_i32_367
  let v489 : BitVec 32 := Scalar.remsi v486 v488
  let c0_i32_371 : BitVec 32 := 0#32
  let v491 : BitVec 1 := Scalar.cmpi .slt v489 c0_i32_371
  let c0_i32_372 : BitVec 32 := 0#32
  let v492 : BitVec 1 := Scalar.cmpi .slt v488 c0_i32_372
  let v493 : BitVec 1 := Scalar.xori v491 v492
  let c0_i32_370 : BitVec 32 := 0#32
  let v490 : BitVec 1 := Scalar.cmpi .ne v489 c0_i32_370
  let v494 : BitVec 1 := Scalar.andi v493 v490
  let v495 : BitVec 32 := Scalar.addi v489 v488
  let v496 : BitVec 32 := Scalar.select v494 v495 v489
  let c1_i32_378 : BitVec 32 := 1#32
  let v498 : BitVec 32 := Scalar.muli v496 c1_i32_378
  let v499 : BitVec 32 := Scalar.addi c0_i32_379 v498
  v499.toNat
def k0_dev30 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_383 : BitVec 32 := 15#32
  let v507 : BitVec 32 := Scalar.addi v2 c15_i32_383
  let c16_i32_384 : BitVec 32 := 16#32
  let c0_i32_385 : BitVec 32 := 0#32
  let v508 : BitVec 1 := Scalar.cmpi .eq c16_i32_384 c0_i32_385
  let c1_i32_386 : BitVec 32 := 1#32
  let v509 : BitVec 32 := Scalar.select v508 c1_i32_386 c16_i32_384
  let v510 : BitVec 32 := Scalar.remsi v507 v509
  let c0_i32_388 : BitVec 32 := 0#32
  let v512 : BitVec 1 := Scalar.cmpi .slt v510 c0_i32_388
  let c0_i32_389 : BitVec 32 := 0#32
  let v513 : BitVec 1 := Scalar.cmpi .slt v509 c0_i32_389
  let v514 : BitVec 1 := Scalar.xori v512 v513
  let c0_i32_387 : BitVec 32 := 0#32
  let v511 : BitVec 1 := Scalar.cmpi .ne v510 c0_i32_387
  let v515 : BitVec 1 := Scalar.andi v514 v511
  let v516 : BitVec 32 := Scalar.addi v510 v509
  let v517 : BitVec 32 := Scalar.select v515 v516 v510
  let c1_i32_395 : BitVec 32 := 1#32
  let v519 : BitVec 32 := Scalar.muli v517 c1_i32_395
  let v520 : BitVec 32 := Scalar.addi c0_i32_396 v519
  v520.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_400 : BitVec 32 := 16#32
  let v528 : BitVec 32 := Scalar.muli v2 c16_i32_400
  let v529 : Index := Scalar.indexCast v528
  let c0_401 : Index := 0#32
  ![v529.toNat, 0]
def k0_off4 (d0 : Dev nD) (c1_i32_402 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v532 : BitVec 32 := Scalar.subi v2 c1_i32_402
  let c16_i32_403 : BitVec 32 := 16#32
  let c0_i32_404 : BitVec 32 := 0#32
  let v533 : BitVec 1 := Scalar.cmpi .eq c16_i32_403 c0_i32_404
  let c1_i32_405 : BitVec 32 := 1#32
  let v534 : BitVec 32 := Scalar.select v533 c1_i32_405 c16_i32_403
  let v535 : BitVec 32 := Scalar.remsi v532 v534
  let c0_i32_407 : BitVec 32 := 0#32
  let v537 : BitVec 1 := Scalar.cmpi .slt v535 c0_i32_407
  let c0_i32_408 : BitVec 32 := 0#32
  let v538 : BitVec 1 := Scalar.cmpi .slt v534 c0_i32_408
  let v539 : BitVec 1 := Scalar.xori v537 v538
  let c0_i32_406 : BitVec 32 := 0#32
  let v536 : BitVec 1 := Scalar.cmpi .ne v535 c0_i32_406
  let v540 : BitVec 1 := Scalar.andi v539 v536
  let v541 : BitVec 32 := Scalar.addi v535 v534
  let v542 : BitVec 32 := Scalar.select v540 v541 v535
  let c0_i32_416 : BitVec 32 := 0#32
  let c0_i32_417 : BitVec 32 := 0#32
  ![v542.toNat, 0, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_409 : BitVec 32 := 16#32
  let v543 : BitVec 32 := Scalar.muli v2 c16_i32_409
  let c0_i32_418 : BitVec 32 := 0#32
  ![v543.toNat, 0]
def k0_off6 (d0 : Dev nD) (c1_i32_402 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v532 : BitVec 32 := Scalar.subi v2 c1_i32_402
  let c16_i32_403 : BitVec 32 := 16#32
  let c0_i32_404 : BitVec 32 := 0#32
  let v533 : BitVec 1 := Scalar.cmpi .eq c16_i32_403 c0_i32_404
  let c1_i32_405 : BitVec 32 := 1#32
  let v534 : BitVec 32 := Scalar.select v533 c1_i32_405 c16_i32_403
  let v535 : BitVec 32 := Scalar.remsi v532 v534
  let c0_i32_407 : BitVec 32 := 0#32
  let v537 : BitVec 1 := Scalar.cmpi .slt v535 c0_i32_407
  let c0_i32_408 : BitVec 32 := 0#32
  let v538 : BitVec 1 := Scalar.cmpi .slt v534 c0_i32_408
  let v539 : BitVec 1 := Scalar.xori v537 v538
  let c0_i32_406 : BitVec 32 := 0#32
  let v536 : BitVec 1 := Scalar.cmpi .ne v535 c0_i32_406
  let v540 : BitVec 1 := Scalar.andi v539 v536
  let v541 : BitVec 32 := Scalar.addi v535 v534
  let v542 : BitVec 32 := Scalar.select v540 v541 v535
  let v551 : Index := Scalar.indexCast v542
  let c0_419 : Index := 0#32
  let c0_420 : Index := 0#32
  ![v551.toNat, 0, 0]
def k0_dev31 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_689 : BitVec 32 := 1#32
  let v898 : BitVec 32 := Scalar.addi v2 c1_i32_689
  let c16_i32_690 : BitVec 32 := 16#32
  let c0_i32_691 : BitVec 32 := 0#32
  let v899 : BitVec 1 := Scalar.cmpi .eq c16_i32_690 c0_i32_691
  let c1_i32_692 : BitVec 32 := 1#32
  let v900 : BitVec 32 := Scalar.select v899 c1_i32_692 c16_i32_690
  let v901 : BitVec 32 := Scalar.remsi v898 v900
  let c0_i32_694 : BitVec 32 := 0#32
  let v903 : BitVec 1 := Scalar.cmpi .slt v901 c0_i32_694
  let c0_i32_695 : BitVec 32 := 0#32
  let v904 : BitVec 1 := Scalar.cmpi .slt v900 c0_i32_695
  let v905 : BitVec 1 := Scalar.xori v903 v904
  let c0_i32_693 : BitVec 32 := 0#32
  let v902 : BitVec 1 := Scalar.cmpi .ne v901 c0_i32_693
  let v906 : BitVec 1 := Scalar.andi v905 v902
  let v907 : BitVec 32 := Scalar.addi v901 v900
  let v908 : BitVec 32 := Scalar.select v906 v907 v901
  let c1_i32_702 : BitVec 32 := 1#32
  let v911 : BitVec 32 := Scalar.muli v908 c1_i32_702
  let v912 : BitVec 32 := Scalar.addi c0_i32_703 v911
  v912.toNat
def k0_dev32 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_706 : BitVec 32 := 2#32
  let v919 : BitVec 32 := Scalar.addi v2 c2_i32_706
  let c16_i32_707 : BitVec 32 := 16#32
  let c0_i32_708 : BitVec 32 := 0#32
  let v920 : BitVec 1 := Scalar.cmpi .eq c16_i32_707 c0_i32_708
  let c1_i32_709 : BitVec 32 := 1#32
  let v921 : BitVec 32 := Scalar.select v920 c1_i32_709 c16_i32_707
  let v922 : BitVec 32 := Scalar.remsi v919 v921
  let c0_i32_711 : BitVec 32 := 0#32
  let v924 : BitVec 1 := Scalar.cmpi .slt v922 c0_i32_711
  let c0_i32_712 : BitVec 32 := 0#32
  let v925 : BitVec 1 := Scalar.cmpi .slt v921 c0_i32_712
  let v926 : BitVec 1 := Scalar.xori v924 v925
  let c0_i32_710 : BitVec 32 := 0#32
  let v923 : BitVec 1 := Scalar.cmpi .ne v922 c0_i32_710
  let v927 : BitVec 1 := Scalar.andi v926 v923
  let v928 : BitVec 32 := Scalar.addi v922 v921
  let v929 : BitVec 32 := Scalar.select v927 v928 v922
  let c1_i32_719 : BitVec 32 := 1#32
  let v932 : BitVec 32 := Scalar.muli v929 c1_i32_719
  let v933 : BitVec 32 := Scalar.addi c0_i32_720 v932
  v933.toNat
def k0_dev33 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_723 : BitVec 32 := 3#32
  let v940 : BitVec 32 := Scalar.addi v2 c3_i32_723
  let c16_i32_724 : BitVec 32 := 16#32
  let c0_i32_725 : BitVec 32 := 0#32
  let v941 : BitVec 1 := Scalar.cmpi .eq c16_i32_724 c0_i32_725
  let c1_i32_726 : BitVec 32 := 1#32
  let v942 : BitVec 32 := Scalar.select v941 c1_i32_726 c16_i32_724
  let v943 : BitVec 32 := Scalar.remsi v940 v942
  let c0_i32_728 : BitVec 32 := 0#32
  let v945 : BitVec 1 := Scalar.cmpi .slt v943 c0_i32_728
  let c0_i32_729 : BitVec 32 := 0#32
  let v946 : BitVec 1 := Scalar.cmpi .slt v942 c0_i32_729
  let v947 : BitVec 1 := Scalar.xori v945 v946
  let c0_i32_727 : BitVec 32 := 0#32
  let v944 : BitVec 1 := Scalar.cmpi .ne v943 c0_i32_727
  let v948 : BitVec 1 := Scalar.andi v947 v944
  let v949 : BitVec 32 := Scalar.addi v943 v942
  let v950 : BitVec 32 := Scalar.select v948 v949 v943
  let c1_i32_736 : BitVec 32 := 1#32
  let v953 : BitVec 32 := Scalar.muli v950 c1_i32_736
  let v954 : BitVec 32 := Scalar.addi c0_i32_737 v953
  v954.toNat
def k0_dev34 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_740 : BitVec 32 := 4#32
  let v961 : BitVec 32 := Scalar.addi v2 c4_i32_740
  let c16_i32_741 : BitVec 32 := 16#32
  let c0_i32_742 : BitVec 32 := 0#32
  let v962 : BitVec 1 := Scalar.cmpi .eq c16_i32_741 c0_i32_742
  let c1_i32_743 : BitVec 32 := 1#32
  let v963 : BitVec 32 := Scalar.select v962 c1_i32_743 c16_i32_741
  let v964 : BitVec 32 := Scalar.remsi v961 v963
  let c0_i32_745 : BitVec 32 := 0#32
  let v966 : BitVec 1 := Scalar.cmpi .slt v964 c0_i32_745
  let c0_i32_746 : BitVec 32 := 0#32
  let v967 : BitVec 1 := Scalar.cmpi .slt v963 c0_i32_746
  let v968 : BitVec 1 := Scalar.xori v966 v967
  let c0_i32_744 : BitVec 32 := 0#32
  let v965 : BitVec 1 := Scalar.cmpi .ne v964 c0_i32_744
  let v969 : BitVec 1 := Scalar.andi v968 v965
  let v970 : BitVec 32 := Scalar.addi v964 v963
  let v971 : BitVec 32 := Scalar.select v969 v970 v964
  let c1_i32_753 : BitVec 32 := 1#32
  let v974 : BitVec 32 := Scalar.muli v971 c1_i32_753
  let v975 : BitVec 32 := Scalar.addi c0_i32_754 v974
  v975.toNat
def k0_dev35 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_757 : BitVec 32 := 5#32
  let v982 : BitVec 32 := Scalar.addi v2 c5_i32_757
  let c16_i32_758 : BitVec 32 := 16#32
  let c0_i32_759 : BitVec 32 := 0#32
  let v983 : BitVec 1 := Scalar.cmpi .eq c16_i32_758 c0_i32_759
  let c1_i32_760 : BitVec 32 := 1#32
  let v984 : BitVec 32 := Scalar.select v983 c1_i32_760 c16_i32_758
  let v985 : BitVec 32 := Scalar.remsi v982 v984
  let c0_i32_762 : BitVec 32 := 0#32
  let v987 : BitVec 1 := Scalar.cmpi .slt v985 c0_i32_762
  let c0_i32_763 : BitVec 32 := 0#32
  let v988 : BitVec 1 := Scalar.cmpi .slt v984 c0_i32_763
  let v989 : BitVec 1 := Scalar.xori v987 v988
  let c0_i32_761 : BitVec 32 := 0#32
  let v986 : BitVec 1 := Scalar.cmpi .ne v985 c0_i32_761
  let v990 : BitVec 1 := Scalar.andi v989 v986
  let v991 : BitVec 32 := Scalar.addi v985 v984
  let v992 : BitVec 32 := Scalar.select v990 v991 v985
  let c1_i32_770 : BitVec 32 := 1#32
  let v995 : BitVec 32 := Scalar.muli v992 c1_i32_770
  let v996 : BitVec 32 := Scalar.addi c0_i32_771 v995
  v996.toNat
def k0_dev36 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_774 : BitVec 32 := 6#32
  let v1003 : BitVec 32 := Scalar.addi v2 c6_i32_774
  let c16_i32_775 : BitVec 32 := 16#32
  let c0_i32_776 : BitVec 32 := 0#32
  let v1004 : BitVec 1 := Scalar.cmpi .eq c16_i32_775 c0_i32_776
  let c1_i32_777 : BitVec 32 := 1#32
  let v1005 : BitVec 32 := Scalar.select v1004 c1_i32_777 c16_i32_775
  let v1006 : BitVec 32 := Scalar.remsi v1003 v1005
  let c0_i32_779 : BitVec 32 := 0#32
  let v1008 : BitVec 1 := Scalar.cmpi .slt v1006 c0_i32_779
  let c0_i32_780 : BitVec 32 := 0#32
  let v1009 : BitVec 1 := Scalar.cmpi .slt v1005 c0_i32_780
  let v1010 : BitVec 1 := Scalar.xori v1008 v1009
  let c0_i32_778 : BitVec 32 := 0#32
  let v1007 : BitVec 1 := Scalar.cmpi .ne v1006 c0_i32_778
  let v1011 : BitVec 1 := Scalar.andi v1010 v1007
  let v1012 : BitVec 32 := Scalar.addi v1006 v1005
  let v1013 : BitVec 32 := Scalar.select v1011 v1012 v1006
  let c1_i32_787 : BitVec 32 := 1#32
  let v1016 : BitVec 32 := Scalar.muli v1013 c1_i32_787
  let v1017 : BitVec 32 := Scalar.addi c0_i32_788 v1016
  v1017.toNat
def k0_dev37 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_791 : BitVec 32 := 7#32
  let v1024 : BitVec 32 := Scalar.addi v2 c7_i32_791
  let c16_i32_792 : BitVec 32 := 16#32
  let c0_i32_793 : BitVec 32 := 0#32
  let v1025 : BitVec 1 := Scalar.cmpi .eq c16_i32_792 c0_i32_793
  let c1_i32_794 : BitVec 32 := 1#32
  let v1026 : BitVec 32 := Scalar.select v1025 c1_i32_794 c16_i32_792
  let v1027 : BitVec 32 := Scalar.remsi v1024 v1026
  let c0_i32_796 : BitVec 32 := 0#32
  let v1029 : BitVec 1 := Scalar.cmpi .slt v1027 c0_i32_796
  let c0_i32_797 : BitVec 32 := 0#32
  let v1030 : BitVec 1 := Scalar.cmpi .slt v1026 c0_i32_797
  let v1031 : BitVec 1 := Scalar.xori v1029 v1030
  let c0_i32_795 : BitVec 32 := 0#32
  let v1028 : BitVec 1 := Scalar.cmpi .ne v1027 c0_i32_795
  let v1032 : BitVec 1 := Scalar.andi v1031 v1028
  let v1033 : BitVec 32 := Scalar.addi v1027 v1026
  let v1034 : BitVec 32 := Scalar.select v1032 v1033 v1027
  let c1_i32_804 : BitVec 32 := 1#32
  let v1037 : BitVec 32 := Scalar.muli v1034 c1_i32_804
  let v1038 : BitVec 32 := Scalar.addi c0_i32_805 v1037
  v1038.toNat
def k0_dev38 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_808 : BitVec 32 := 8#32
  let v1045 : BitVec 32 := Scalar.addi v2 c8_i32_808
  let c16_i32_809 : BitVec 32 := 16#32
  let c0_i32_810 : BitVec 32 := 0#32
  let v1046 : BitVec 1 := Scalar.cmpi .eq c16_i32_809 c0_i32_810
  let c1_i32_811 : BitVec 32 := 1#32
  let v1047 : BitVec 32 := Scalar.select v1046 c1_i32_811 c16_i32_809
  let v1048 : BitVec 32 := Scalar.remsi v1045 v1047
  let c0_i32_813 : BitVec 32 := 0#32
  let v1050 : BitVec 1 := Scalar.cmpi .slt v1048 c0_i32_813
  let c0_i32_814 : BitVec 32 := 0#32
  let v1051 : BitVec 1 := Scalar.cmpi .slt v1047 c0_i32_814
  let v1052 : BitVec 1 := Scalar.xori v1050 v1051
  let c0_i32_812 : BitVec 32 := 0#32
  let v1049 : BitVec 1 := Scalar.cmpi .ne v1048 c0_i32_812
  let v1053 : BitVec 1 := Scalar.andi v1052 v1049
  let v1054 : BitVec 32 := Scalar.addi v1048 v1047
  let v1055 : BitVec 32 := Scalar.select v1053 v1054 v1048
  let c1_i32_821 : BitVec 32 := 1#32
  let v1058 : BitVec 32 := Scalar.muli v1055 c1_i32_821
  let v1059 : BitVec 32 := Scalar.addi c0_i32_822 v1058
  v1059.toNat
def k0_dev39 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_825 : BitVec 32 := 9#32
  let v1066 : BitVec 32 := Scalar.addi v2 c9_i32_825
  let c16_i32_826 : BitVec 32 := 16#32
  let c0_i32_827 : BitVec 32 := 0#32
  let v1067 : BitVec 1 := Scalar.cmpi .eq c16_i32_826 c0_i32_827
  let c1_i32_828 : BitVec 32 := 1#32
  let v1068 : BitVec 32 := Scalar.select v1067 c1_i32_828 c16_i32_826
  let v1069 : BitVec 32 := Scalar.remsi v1066 v1068
  let c0_i32_830 : BitVec 32 := 0#32
  let v1071 : BitVec 1 := Scalar.cmpi .slt v1069 c0_i32_830
  let c0_i32_831 : BitVec 32 := 0#32
  let v1072 : BitVec 1 := Scalar.cmpi .slt v1068 c0_i32_831
  let v1073 : BitVec 1 := Scalar.xori v1071 v1072
  let c0_i32_829 : BitVec 32 := 0#32
  let v1070 : BitVec 1 := Scalar.cmpi .ne v1069 c0_i32_829
  let v1074 : BitVec 1 := Scalar.andi v1073 v1070
  let v1075 : BitVec 32 := Scalar.addi v1069 v1068
  let v1076 : BitVec 32 := Scalar.select v1074 v1075 v1069
  let c1_i32_838 : BitVec 32 := 1#32
  let v1079 : BitVec 32 := Scalar.muli v1076 c1_i32_838
  let v1080 : BitVec 32 := Scalar.addi c0_i32_839 v1079
  v1080.toNat
def k0_dev40 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_842 : BitVec 32 := 10#32
  let v1087 : BitVec 32 := Scalar.addi v2 c10_i32_842
  let c16_i32_843 : BitVec 32 := 16#32
  let c0_i32_844 : BitVec 32 := 0#32
  let v1088 : BitVec 1 := Scalar.cmpi .eq c16_i32_843 c0_i32_844
  let c1_i32_845 : BitVec 32 := 1#32
  let v1089 : BitVec 32 := Scalar.select v1088 c1_i32_845 c16_i32_843
  let v1090 : BitVec 32 := Scalar.remsi v1087 v1089
  let c0_i32_847 : BitVec 32 := 0#32
  let v1092 : BitVec 1 := Scalar.cmpi .slt v1090 c0_i32_847
  let c0_i32_848 : BitVec 32 := 0#32
  let v1093 : BitVec 1 := Scalar.cmpi .slt v1089 c0_i32_848
  let v1094 : BitVec 1 := Scalar.xori v1092 v1093
  let c0_i32_846 : BitVec 32 := 0#32
  let v1091 : BitVec 1 := Scalar.cmpi .ne v1090 c0_i32_846
  let v1095 : BitVec 1 := Scalar.andi v1094 v1091
  let v1096 : BitVec 32 := Scalar.addi v1090 v1089
  let v1097 : BitVec 32 := Scalar.select v1095 v1096 v1090
  let c1_i32_855 : BitVec 32 := 1#32
  let v1100 : BitVec 32 := Scalar.muli v1097 c1_i32_855
  let v1101 : BitVec 32 := Scalar.addi c0_i32_856 v1100
  v1101.toNat
def k0_dev41 (d0 : Dev nD) : Nat :=
  let c0_i32_873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_859 : BitVec 32 := 11#32
  let v1108 : BitVec 32 := Scalar.addi v2 c11_i32_859
  let c16_i32_860 : BitVec 32 := 16#32
  let c0_i32_861 : BitVec 32 := 0#32
  let v1109 : BitVec 1 := Scalar.cmpi .eq c16_i32_860 c0_i32_861
  let c1_i32_862 : BitVec 32 := 1#32
  let v1110 : BitVec 32 := Scalar.select v1109 c1_i32_862 c16_i32_860
  let v1111 : BitVec 32 := Scalar.remsi v1108 v1110
  let c0_i32_864 : BitVec 32 := 0#32
  let v1113 : BitVec 1 := Scalar.cmpi .slt v1111 c0_i32_864
  let c0_i32_865 : BitVec 32 := 0#32
  let v1114 : BitVec 1 := Scalar.cmpi .slt v1110 c0_i32_865
  let v1115 : BitVec 1 := Scalar.xori v1113 v1114
  let c0_i32_863 : BitVec 32 := 0#32
  let v1112 : BitVec 1 := Scalar.cmpi .ne v1111 c0_i32_863
  let v1116 : BitVec 1 := Scalar.andi v1115 v1112
  let v1117 : BitVec 32 := Scalar.addi v1111 v1110
  let v1118 : BitVec 32 := Scalar.select v1116 v1117 v1111
  let c1_i32_872 : BitVec 32 := 1#32
  let v1121 : BitVec 32 := Scalar.muli v1118 c1_i32_872
  let v1122 : BitVec 32 := Scalar.addi c0_i32_873 v1121
  v1122.toNat
def k0_dev42 (d0 : Dev nD) : Nat :=
  let c0_i32_890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_876 : BitVec 32 := 12#32
  let v1129 : BitVec 32 := Scalar.addi v2 c12_i32_876
  let c16_i32_877 : BitVec 32 := 16#32
  let c0_i32_878 : BitVec 32 := 0#32
  let v1130 : BitVec 1 := Scalar.cmpi .eq c16_i32_877 c0_i32_878
  let c1_i32_879 : BitVec 32 := 1#32
  let v1131 : BitVec 32 := Scalar.select v1130 c1_i32_879 c16_i32_877
  let v1132 : BitVec 32 := Scalar.remsi v1129 v1131
  let c0_i32_881 : BitVec 32 := 0#32
  let v1134 : BitVec 1 := Scalar.cmpi .slt v1132 c0_i32_881
  let c0_i32_882 : BitVec 32 := 0#32
  let v1135 : BitVec 1 := Scalar.cmpi .slt v1131 c0_i32_882
  let v1136 : BitVec 1 := Scalar.xori v1134 v1135
  let c0_i32_880 : BitVec 32 := 0#32
  let v1133 : BitVec 1 := Scalar.cmpi .ne v1132 c0_i32_880
  let v1137 : BitVec 1 := Scalar.andi v1136 v1133
  let v1138 : BitVec 32 := Scalar.addi v1132 v1131
  let v1139 : BitVec 32 := Scalar.select v1137 v1138 v1132
  let c1_i32_889 : BitVec 32 := 1#32
  let v1142 : BitVec 32 := Scalar.muli v1139 c1_i32_889
  let v1143 : BitVec 32 := Scalar.addi c0_i32_890 v1142
  v1143.toNat
def k0_dev43 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_893 : BitVec 32 := 13#32
  let v1150 : BitVec 32 := Scalar.addi v2 c13_i32_893
  let c16_i32_894 : BitVec 32 := 16#32
  let c0_i32_895 : BitVec 32 := 0#32
  let v1151 : BitVec 1 := Scalar.cmpi .eq c16_i32_894 c0_i32_895
  let c1_i32_896 : BitVec 32 := 1#32
  let v1152 : BitVec 32 := Scalar.select v1151 c1_i32_896 c16_i32_894
  let v1153 : BitVec 32 := Scalar.remsi v1150 v1152
  let c0_i32_898 : BitVec 32 := 0#32
  let v1155 : BitVec 1 := Scalar.cmpi .slt v1153 c0_i32_898
  let c0_i32_899 : BitVec 32 := 0#32
  let v1156 : BitVec 1 := Scalar.cmpi .slt v1152 c0_i32_899
  let v1157 : BitVec 1 := Scalar.xori v1155 v1156
  let c0_i32_897 : BitVec 32 := 0#32
  let v1154 : BitVec 1 := Scalar.cmpi .ne v1153 c0_i32_897
  let v1158 : BitVec 1 := Scalar.andi v1157 v1154
  let v1159 : BitVec 32 := Scalar.addi v1153 v1152
  let v1160 : BitVec 32 := Scalar.select v1158 v1159 v1153
  let c1_i32_906 : BitVec 32 := 1#32
  let v1163 : BitVec 32 := Scalar.muli v1160 c1_i32_906
  let v1164 : BitVec 32 := Scalar.addi c0_i32_907 v1163
  v1164.toNat
def k0_dev44 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_910 : BitVec 32 := 14#32
  let v1171 : BitVec 32 := Scalar.addi v2 c14_i32_910
  let c16_i32_911 : BitVec 32 := 16#32
  let c0_i32_912 : BitVec 32 := 0#32
  let v1172 : BitVec 1 := Scalar.cmpi .eq c16_i32_911 c0_i32_912
  let c1_i32_913 : BitVec 32 := 1#32
  let v1173 : BitVec 32 := Scalar.select v1172 c1_i32_913 c16_i32_911
  let v1174 : BitVec 32 := Scalar.remsi v1171 v1173
  let c0_i32_915 : BitVec 32 := 0#32
  let v1176 : BitVec 1 := Scalar.cmpi .slt v1174 c0_i32_915
  let c0_i32_916 : BitVec 32 := 0#32
  let v1177 : BitVec 1 := Scalar.cmpi .slt v1173 c0_i32_916
  let v1178 : BitVec 1 := Scalar.xori v1176 v1177
  let c0_i32_914 : BitVec 32 := 0#32
  let v1175 : BitVec 1 := Scalar.cmpi .ne v1174 c0_i32_914
  let v1179 : BitVec 1 := Scalar.andi v1178 v1175
  let v1180 : BitVec 32 := Scalar.addi v1174 v1173
  let v1181 : BitVec 32 := Scalar.select v1179 v1180 v1174
  let c1_i32_923 : BitVec 32 := 1#32
  let v1184 : BitVec 32 := Scalar.muli v1181 c1_i32_923
  let v1185 : BitVec 32 := Scalar.addi c0_i32_924 v1184
  v1185.toNat
def k0_dev45 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_927 : BitVec 32 := 15#32
  let v1192 : BitVec 32 := Scalar.addi v2 c15_i32_927
  let c16_i32_928 : BitVec 32 := 16#32
  let c0_i32_929 : BitVec 32 := 0#32
  let v1193 : BitVec 1 := Scalar.cmpi .eq c16_i32_928 c0_i32_929
  let c1_i32_930 : BitVec 32 := 1#32
  let v1194 : BitVec 32 := Scalar.select v1193 c1_i32_930 c16_i32_928
  let v1195 : BitVec 32 := Scalar.remsi v1192 v1194
  let c0_i32_932 : BitVec 32 := 0#32
  let v1197 : BitVec 1 := Scalar.cmpi .slt v1195 c0_i32_932
  let c0_i32_933 : BitVec 32 := 0#32
  let v1198 : BitVec 1 := Scalar.cmpi .slt v1194 c0_i32_933
  let v1199 : BitVec 1 := Scalar.xori v1197 v1198
  let c0_i32_931 : BitVec 32 := 0#32
  let v1196 : BitVec 1 := Scalar.cmpi .ne v1195 c0_i32_931
  let v1200 : BitVec 1 := Scalar.andi v1199 v1196
  let v1201 : BitVec 32 := Scalar.addi v1195 v1194
  let v1202 : BitVec 32 := Scalar.select v1200 v1201 v1195
  let c1_i32_940 : BitVec 32 := 1#32
  let v1205 : BitVec 32 := Scalar.muli v1202 c1_i32_940
  let v1206 : BitVec 32 := Scalar.addi c0_i32_941 v1205
  v1206.toNat
def k0_off7 (d0 : Dev nD) (c1_i32_944 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1213 : BitVec 32 := Scalar.subi v2 c1_i32_944
  let c16_i32_945 : BitVec 32 := 16#32
  let c0_i32_946 : BitVec 32 := 0#32
  let v1214 : BitVec 1 := Scalar.cmpi .eq c16_i32_945 c0_i32_946
  let c1_i32_947 : BitVec 32 := 1#32
  let v1215 : BitVec 32 := Scalar.select v1214 c1_i32_947 c16_i32_945
  let v1216 : BitVec 32 := Scalar.remsi v1213 v1215
  let c0_i32_949 : BitVec 32 := 0#32
  let v1218 : BitVec 1 := Scalar.cmpi .slt v1216 c0_i32_949
  let c0_i32_950 : BitVec 32 := 0#32
  let v1219 : BitVec 1 := Scalar.cmpi .slt v1215 c0_i32_950
  let v1220 : BitVec 1 := Scalar.xori v1218 v1219
  let c0_i32_948 : BitVec 32 := 0#32
  let v1217 : BitVec 1 := Scalar.cmpi .ne v1216 c0_i32_948
  let v1221 : BitVec 1 := Scalar.andi v1220 v1217
  let v1222 : BitVec 32 := Scalar.addi v1216 v1215
  let v1223 : BitVec 32 := Scalar.select v1221 v1222 v1216
  let c16_i32_952 : BitVec 32 := 16#32
  let v1225 : BitVec 32 := Scalar.muli v1223 c16_i32_952
  let c0_i32_959 : BitVec 32 := 0#32
  ![v1225.toNat, 0]
def k0_dev46 (d0 : Dev nD) : Nat :=
  let c0_i32_1448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1435 : BitVec 32 := 1#32
  let v1646 : BitVec 32 := Scalar.addi v2 c1_i32_1435
  let c16_i32_1436 : BitVec 32 := 16#32
  let c0_i32_1437 : BitVec 32 := 0#32
  let v1647 : BitVec 1 := Scalar.cmpi .eq c16_i32_1436 c0_i32_1437
  let c1_i32_1438 : BitVec 32 := 1#32
  let v1648 : BitVec 32 := Scalar.select v1647 c1_i32_1438 c16_i32_1436
  let v1649 : BitVec 32 := Scalar.remsi v1646 v1648
  let c0_i32_1440 : BitVec 32 := 0#32
  let v1651 : BitVec 1 := Scalar.cmpi .slt v1649 c0_i32_1440
  let c0_i32_1441 : BitVec 32 := 0#32
  let v1652 : BitVec 1 := Scalar.cmpi .slt v1648 c0_i32_1441
  let v1653 : BitVec 1 := Scalar.xori v1651 v1652
  let c0_i32_1439 : BitVec 32 := 0#32
  let v1650 : BitVec 1 := Scalar.cmpi .ne v1649 c0_i32_1439
  let v1654 : BitVec 1 := Scalar.andi v1653 v1650
  let v1655 : BitVec 32 := Scalar.addi v1649 v1648
  let v1656 : BitVec 32 := Scalar.select v1654 v1655 v1649
  let c1_i32_1447 : BitVec 32 := 1#32
  let v1658 : BitVec 32 := Scalar.muli v1656 c1_i32_1447
  let v1659 : BitVec 32 := Scalar.addi c0_i32_1448 v1658
  v1659.toNat
def k0_dev47 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1452 : BitVec 32 := 2#32
  let v1667 : BitVec 32 := Scalar.addi v2 c2_i32_1452
  let c16_i32_1453 : BitVec 32 := 16#32
  let c0_i32_1454 : BitVec 32 := 0#32
  let v1668 : BitVec 1 := Scalar.cmpi .eq c16_i32_1453 c0_i32_1454
  let c1_i32_1455 : BitVec 32 := 1#32
  let v1669 : BitVec 32 := Scalar.select v1668 c1_i32_1455 c16_i32_1453
  let v1670 : BitVec 32 := Scalar.remsi v1667 v1669
  let c0_i32_1457 : BitVec 32 := 0#32
  let v1672 : BitVec 1 := Scalar.cmpi .slt v1670 c0_i32_1457
  let c0_i32_1458 : BitVec 32 := 0#32
  let v1673 : BitVec 1 := Scalar.cmpi .slt v1669 c0_i32_1458
  let v1674 : BitVec 1 := Scalar.xori v1672 v1673
  let c0_i32_1456 : BitVec 32 := 0#32
  let v1671 : BitVec 1 := Scalar.cmpi .ne v1670 c0_i32_1456
  let v1675 : BitVec 1 := Scalar.andi v1674 v1671
  let v1676 : BitVec 32 := Scalar.addi v1670 v1669
  let v1677 : BitVec 32 := Scalar.select v1675 v1676 v1670
  let c1_i32_1464 : BitVec 32 := 1#32
  let v1679 : BitVec 32 := Scalar.muli v1677 c1_i32_1464
  let v1680 : BitVec 32 := Scalar.addi c0_i32_1465 v1679
  v1680.toNat
def k0_dev48 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1469 : BitVec 32 := 3#32
  let v1688 : BitVec 32 := Scalar.addi v2 c3_i32_1469
  let c16_i32_1470 : BitVec 32 := 16#32
  let c0_i32_1471 : BitVec 32 := 0#32
  let v1689 : BitVec 1 := Scalar.cmpi .eq c16_i32_1470 c0_i32_1471
  let c1_i32_1472 : BitVec 32 := 1#32
  let v1690 : BitVec 32 := Scalar.select v1689 c1_i32_1472 c16_i32_1470
  let v1691 : BitVec 32 := Scalar.remsi v1688 v1690
  let c0_i32_1474 : BitVec 32 := 0#32
  let v1693 : BitVec 1 := Scalar.cmpi .slt v1691 c0_i32_1474
  let c0_i32_1475 : BitVec 32 := 0#32
  let v1694 : BitVec 1 := Scalar.cmpi .slt v1690 c0_i32_1475
  let v1695 : BitVec 1 := Scalar.xori v1693 v1694
  let c0_i32_1473 : BitVec 32 := 0#32
  let v1692 : BitVec 1 := Scalar.cmpi .ne v1691 c0_i32_1473
  let v1696 : BitVec 1 := Scalar.andi v1695 v1692
  let v1697 : BitVec 32 := Scalar.addi v1691 v1690
  let v1698 : BitVec 32 := Scalar.select v1696 v1697 v1691
  let c1_i32_1481 : BitVec 32 := 1#32
  let v1700 : BitVec 32 := Scalar.muli v1698 c1_i32_1481
  let v1701 : BitVec 32 := Scalar.addi c0_i32_1482 v1700
  v1701.toNat
def k0_dev49 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1486 : BitVec 32 := 4#32
  let v1709 : BitVec 32 := Scalar.addi v2 c4_i32_1486
  let c16_i32_1487 : BitVec 32 := 16#32
  let c0_i32_1488 : BitVec 32 := 0#32
  let v1710 : BitVec 1 := Scalar.cmpi .eq c16_i32_1487 c0_i32_1488
  let c1_i32_1489 : BitVec 32 := 1#32
  let v1711 : BitVec 32 := Scalar.select v1710 c1_i32_1489 c16_i32_1487
  let v1712 : BitVec 32 := Scalar.remsi v1709 v1711
  let c0_i32_1491 : BitVec 32 := 0#32
  let v1714 : BitVec 1 := Scalar.cmpi .slt v1712 c0_i32_1491
  let c0_i32_1492 : BitVec 32 := 0#32
  let v1715 : BitVec 1 := Scalar.cmpi .slt v1711 c0_i32_1492
  let v1716 : BitVec 1 := Scalar.xori v1714 v1715
  let c0_i32_1490 : BitVec 32 := 0#32
  let v1713 : BitVec 1 := Scalar.cmpi .ne v1712 c0_i32_1490
  let v1717 : BitVec 1 := Scalar.andi v1716 v1713
  let v1718 : BitVec 32 := Scalar.addi v1712 v1711
  let v1719 : BitVec 32 := Scalar.select v1717 v1718 v1712
  let c1_i32_1498 : BitVec 32 := 1#32
  let v1721 : BitVec 32 := Scalar.muli v1719 c1_i32_1498
  let v1722 : BitVec 32 := Scalar.addi c0_i32_1499 v1721
  v1722.toNat
def k0_dev50 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1503 : BitVec 32 := 5#32
  let v1730 : BitVec 32 := Scalar.addi v2 c5_i32_1503
  let c16_i32_1504 : BitVec 32 := 16#32
  let c0_i32_1505 : BitVec 32 := 0#32
  let v1731 : BitVec 1 := Scalar.cmpi .eq c16_i32_1504 c0_i32_1505
  let c1_i32_1506 : BitVec 32 := 1#32
  let v1732 : BitVec 32 := Scalar.select v1731 c1_i32_1506 c16_i32_1504
  let v1733 : BitVec 32 := Scalar.remsi v1730 v1732
  let c0_i32_1508 : BitVec 32 := 0#32
  let v1735 : BitVec 1 := Scalar.cmpi .slt v1733 c0_i32_1508
  let c0_i32_1509 : BitVec 32 := 0#32
  let v1736 : BitVec 1 := Scalar.cmpi .slt v1732 c0_i32_1509
  let v1737 : BitVec 1 := Scalar.xori v1735 v1736
  let c0_i32_1507 : BitVec 32 := 0#32
  let v1734 : BitVec 1 := Scalar.cmpi .ne v1733 c0_i32_1507
  let v1738 : BitVec 1 := Scalar.andi v1737 v1734
  let v1739 : BitVec 32 := Scalar.addi v1733 v1732
  let v1740 : BitVec 32 := Scalar.select v1738 v1739 v1733
  let c1_i32_1515 : BitVec 32 := 1#32
  let v1742 : BitVec 32 := Scalar.muli v1740 c1_i32_1515
  let v1743 : BitVec 32 := Scalar.addi c0_i32_1516 v1742
  v1743.toNat
def k0_dev51 (d0 : Dev nD) : Nat :=
  let c0_i32_1533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1520 : BitVec 32 := 6#32
  let v1751 : BitVec 32 := Scalar.addi v2 c6_i32_1520
  let c16_i32_1521 : BitVec 32 := 16#32
  let c0_i32_1522 : BitVec 32 := 0#32
  let v1752 : BitVec 1 := Scalar.cmpi .eq c16_i32_1521 c0_i32_1522
  let c1_i32_1523 : BitVec 32 := 1#32
  let v1753 : BitVec 32 := Scalar.select v1752 c1_i32_1523 c16_i32_1521
  let v1754 : BitVec 32 := Scalar.remsi v1751 v1753
  let c0_i32_1525 : BitVec 32 := 0#32
  let v1756 : BitVec 1 := Scalar.cmpi .slt v1754 c0_i32_1525
  let c0_i32_1526 : BitVec 32 := 0#32
  let v1757 : BitVec 1 := Scalar.cmpi .slt v1753 c0_i32_1526
  let v1758 : BitVec 1 := Scalar.xori v1756 v1757
  let c0_i32_1524 : BitVec 32 := 0#32
  let v1755 : BitVec 1 := Scalar.cmpi .ne v1754 c0_i32_1524
  let v1759 : BitVec 1 := Scalar.andi v1758 v1755
  let v1760 : BitVec 32 := Scalar.addi v1754 v1753
  let v1761 : BitVec 32 := Scalar.select v1759 v1760 v1754
  let c1_i32_1532 : BitVec 32 := 1#32
  let v1763 : BitVec 32 := Scalar.muli v1761 c1_i32_1532
  let v1764 : BitVec 32 := Scalar.addi c0_i32_1533 v1763
  v1764.toNat
def k0_dev52 (d0 : Dev nD) : Nat :=
  let c0_i32_1550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1537 : BitVec 32 := 7#32
  let v1772 : BitVec 32 := Scalar.addi v2 c7_i32_1537
  let c16_i32_1538 : BitVec 32 := 16#32
  let c0_i32_1539 : BitVec 32 := 0#32
  let v1773 : BitVec 1 := Scalar.cmpi .eq c16_i32_1538 c0_i32_1539
  let c1_i32_1540 : BitVec 32 := 1#32
  let v1774 : BitVec 32 := Scalar.select v1773 c1_i32_1540 c16_i32_1538
  let v1775 : BitVec 32 := Scalar.remsi v1772 v1774
  let c0_i32_1542 : BitVec 32 := 0#32
  let v1777 : BitVec 1 := Scalar.cmpi .slt v1775 c0_i32_1542
  let c0_i32_1543 : BitVec 32 := 0#32
  let v1778 : BitVec 1 := Scalar.cmpi .slt v1774 c0_i32_1543
  let v1779 : BitVec 1 := Scalar.xori v1777 v1778
  let c0_i32_1541 : BitVec 32 := 0#32
  let v1776 : BitVec 1 := Scalar.cmpi .ne v1775 c0_i32_1541
  let v1780 : BitVec 1 := Scalar.andi v1779 v1776
  let v1781 : BitVec 32 := Scalar.addi v1775 v1774
  let v1782 : BitVec 32 := Scalar.select v1780 v1781 v1775
  let c1_i32_1549 : BitVec 32 := 1#32
  let v1784 : BitVec 32 := Scalar.muli v1782 c1_i32_1549
  let v1785 : BitVec 32 := Scalar.addi c0_i32_1550 v1784
  v1785.toNat
def k0_dev53 (d0 : Dev nD) : Nat :=
  let c0_i32_1567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1554 : BitVec 32 := 8#32
  let v1793 : BitVec 32 := Scalar.addi v2 c8_i32_1554
  let c16_i32_1555 : BitVec 32 := 16#32
  let c0_i32_1556 : BitVec 32 := 0#32
  let v1794 : BitVec 1 := Scalar.cmpi .eq c16_i32_1555 c0_i32_1556
  let c1_i32_1557 : BitVec 32 := 1#32
  let v1795 : BitVec 32 := Scalar.select v1794 c1_i32_1557 c16_i32_1555
  let v1796 : BitVec 32 := Scalar.remsi v1793 v1795
  let c0_i32_1559 : BitVec 32 := 0#32
  let v1798 : BitVec 1 := Scalar.cmpi .slt v1796 c0_i32_1559
  let c0_i32_1560 : BitVec 32 := 0#32
  let v1799 : BitVec 1 := Scalar.cmpi .slt v1795 c0_i32_1560
  let v1800 : BitVec 1 := Scalar.xori v1798 v1799
  let c0_i32_1558 : BitVec 32 := 0#32
  let v1797 : BitVec 1 := Scalar.cmpi .ne v1796 c0_i32_1558
  let v1801 : BitVec 1 := Scalar.andi v1800 v1797
  let v1802 : BitVec 32 := Scalar.addi v1796 v1795
  let v1803 : BitVec 32 := Scalar.select v1801 v1802 v1796
  let c1_i32_1566 : BitVec 32 := 1#32
  let v1805 : BitVec 32 := Scalar.muli v1803 c1_i32_1566
  let v1806 : BitVec 32 := Scalar.addi c0_i32_1567 v1805
  v1806.toNat
def k0_dev54 (d0 : Dev nD) : Nat :=
  let c0_i32_1584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1571 : BitVec 32 := 9#32
  let v1814 : BitVec 32 := Scalar.addi v2 c9_i32_1571
  let c16_i32_1572 : BitVec 32 := 16#32
  let c0_i32_1573 : BitVec 32 := 0#32
  let v1815 : BitVec 1 := Scalar.cmpi .eq c16_i32_1572 c0_i32_1573
  let c1_i32_1574 : BitVec 32 := 1#32
  let v1816 : BitVec 32 := Scalar.select v1815 c1_i32_1574 c16_i32_1572
  let v1817 : BitVec 32 := Scalar.remsi v1814 v1816
  let c0_i32_1576 : BitVec 32 := 0#32
  let v1819 : BitVec 1 := Scalar.cmpi .slt v1817 c0_i32_1576
  let c0_i32_1577 : BitVec 32 := 0#32
  let v1820 : BitVec 1 := Scalar.cmpi .slt v1816 c0_i32_1577
  let v1821 : BitVec 1 := Scalar.xori v1819 v1820
  let c0_i32_1575 : BitVec 32 := 0#32
  let v1818 : BitVec 1 := Scalar.cmpi .ne v1817 c0_i32_1575
  let v1822 : BitVec 1 := Scalar.andi v1821 v1818
  let v1823 : BitVec 32 := Scalar.addi v1817 v1816
  let v1824 : BitVec 32 := Scalar.select v1822 v1823 v1817
  let c1_i32_1583 : BitVec 32 := 1#32
  let v1826 : BitVec 32 := Scalar.muli v1824 c1_i32_1583
  let v1827 : BitVec 32 := Scalar.addi c0_i32_1584 v1826
  v1827.toNat
def k0_dev55 (d0 : Dev nD) : Nat :=
  let c0_i32_1601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1588 : BitVec 32 := 10#32
  let v1835 : BitVec 32 := Scalar.addi v2 c10_i32_1588
  let c16_i32_1589 : BitVec 32 := 16#32
  let c0_i32_1590 : BitVec 32 := 0#32
  let v1836 : BitVec 1 := Scalar.cmpi .eq c16_i32_1589 c0_i32_1590
  let c1_i32_1591 : BitVec 32 := 1#32
  let v1837 : BitVec 32 := Scalar.select v1836 c1_i32_1591 c16_i32_1589
  let v1838 : BitVec 32 := Scalar.remsi v1835 v1837
  let c0_i32_1593 : BitVec 32 := 0#32
  let v1840 : BitVec 1 := Scalar.cmpi .slt v1838 c0_i32_1593
  let c0_i32_1594 : BitVec 32 := 0#32
  let v1841 : BitVec 1 := Scalar.cmpi .slt v1837 c0_i32_1594
  let v1842 : BitVec 1 := Scalar.xori v1840 v1841
  let c0_i32_1592 : BitVec 32 := 0#32
  let v1839 : BitVec 1 := Scalar.cmpi .ne v1838 c0_i32_1592
  let v1843 : BitVec 1 := Scalar.andi v1842 v1839
  let v1844 : BitVec 32 := Scalar.addi v1838 v1837
  let v1845 : BitVec 32 := Scalar.select v1843 v1844 v1838
  let c1_i32_1600 : BitVec 32 := 1#32
  let v1847 : BitVec 32 := Scalar.muli v1845 c1_i32_1600
  let v1848 : BitVec 32 := Scalar.addi c0_i32_1601 v1847
  v1848.toNat
def k0_dev56 (d0 : Dev nD) : Nat :=
  let c0_i32_1618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1605 : BitVec 32 := 11#32
  let v1856 : BitVec 32 := Scalar.addi v2 c11_i32_1605
  let c16_i32_1606 : BitVec 32 := 16#32
  let c0_i32_1607 : BitVec 32 := 0#32
  let v1857 : BitVec 1 := Scalar.cmpi .eq c16_i32_1606 c0_i32_1607
  let c1_i32_1608 : BitVec 32 := 1#32
  let v1858 : BitVec 32 := Scalar.select v1857 c1_i32_1608 c16_i32_1606
  let v1859 : BitVec 32 := Scalar.remsi v1856 v1858
  let c0_i32_1610 : BitVec 32 := 0#32
  let v1861 : BitVec 1 := Scalar.cmpi .slt v1859 c0_i32_1610
  let c0_i32_1611 : BitVec 32 := 0#32
  let v1862 : BitVec 1 := Scalar.cmpi .slt v1858 c0_i32_1611
  let v1863 : BitVec 1 := Scalar.xori v1861 v1862
  let c0_i32_1609 : BitVec 32 := 0#32
  let v1860 : BitVec 1 := Scalar.cmpi .ne v1859 c0_i32_1609
  let v1864 : BitVec 1 := Scalar.andi v1863 v1860
  let v1865 : BitVec 32 := Scalar.addi v1859 v1858
  let v1866 : BitVec 32 := Scalar.select v1864 v1865 v1859
  let c1_i32_1617 : BitVec 32 := 1#32
  let v1868 : BitVec 32 := Scalar.muli v1866 c1_i32_1617
  let v1869 : BitVec 32 := Scalar.addi c0_i32_1618 v1868
  v1869.toNat
def k0_dev57 (d0 : Dev nD) : Nat :=
  let c0_i32_1635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1622 : BitVec 32 := 12#32
  let v1877 : BitVec 32 := Scalar.addi v2 c12_i32_1622
  let c16_i32_1623 : BitVec 32 := 16#32
  let c0_i32_1624 : BitVec 32 := 0#32
  let v1878 : BitVec 1 := Scalar.cmpi .eq c16_i32_1623 c0_i32_1624
  let c1_i32_1625 : BitVec 32 := 1#32
  let v1879 : BitVec 32 := Scalar.select v1878 c1_i32_1625 c16_i32_1623
  let v1880 : BitVec 32 := Scalar.remsi v1877 v1879
  let c0_i32_1627 : BitVec 32 := 0#32
  let v1882 : BitVec 1 := Scalar.cmpi .slt v1880 c0_i32_1627
  let c0_i32_1628 : BitVec 32 := 0#32
  let v1883 : BitVec 1 := Scalar.cmpi .slt v1879 c0_i32_1628
  let v1884 : BitVec 1 := Scalar.xori v1882 v1883
  let c0_i32_1626 : BitVec 32 := 0#32
  let v1881 : BitVec 1 := Scalar.cmpi .ne v1880 c0_i32_1626
  let v1885 : BitVec 1 := Scalar.andi v1884 v1881
  let v1886 : BitVec 32 := Scalar.addi v1880 v1879
  let v1887 : BitVec 32 := Scalar.select v1885 v1886 v1880
  let c1_i32_1634 : BitVec 32 := 1#32
  let v1889 : BitVec 32 := Scalar.muli v1887 c1_i32_1634
  let v1890 : BitVec 32 := Scalar.addi c0_i32_1635 v1889
  v1890.toNat
def k0_dev58 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1639 : BitVec 32 := 13#32
  let v1898 : BitVec 32 := Scalar.addi v2 c13_i32_1639
  let c16_i32_1640 : BitVec 32 := 16#32
  let c0_i32_1641 : BitVec 32 := 0#32
  let v1899 : BitVec 1 := Scalar.cmpi .eq c16_i32_1640 c0_i32_1641
  let c1_i32_1642 : BitVec 32 := 1#32
  let v1900 : BitVec 32 := Scalar.select v1899 c1_i32_1642 c16_i32_1640
  let v1901 : BitVec 32 := Scalar.remsi v1898 v1900
  let c0_i32_1644 : BitVec 32 := 0#32
  let v1903 : BitVec 1 := Scalar.cmpi .slt v1901 c0_i32_1644
  let c0_i32_1645 : BitVec 32 := 0#32
  let v1904 : BitVec 1 := Scalar.cmpi .slt v1900 c0_i32_1645
  let v1905 : BitVec 1 := Scalar.xori v1903 v1904
  let c0_i32_1643 : BitVec 32 := 0#32
  let v1902 : BitVec 1 := Scalar.cmpi .ne v1901 c0_i32_1643
  let v1906 : BitVec 1 := Scalar.andi v1905 v1902
  let v1907 : BitVec 32 := Scalar.addi v1901 v1900
  let v1908 : BitVec 32 := Scalar.select v1906 v1907 v1901
  let c1_i32_1651 : BitVec 32 := 1#32
  let v1910 : BitVec 32 := Scalar.muli v1908 c1_i32_1651
  let v1911 : BitVec 32 := Scalar.addi c0_i32_1652 v1910
  v1911.toNat
def k0_dev59 (d0 : Dev nD) : Nat :=
  let c0_i32_1669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1656 : BitVec 32 := 14#32
  let v1919 : BitVec 32 := Scalar.addi v2 c14_i32_1656
  let c16_i32_1657 : BitVec 32 := 16#32
  let c0_i32_1658 : BitVec 32 := 0#32
  let v1920 : BitVec 1 := Scalar.cmpi .eq c16_i32_1657 c0_i32_1658
  let c1_i32_1659 : BitVec 32 := 1#32
  let v1921 : BitVec 32 := Scalar.select v1920 c1_i32_1659 c16_i32_1657
  let v1922 : BitVec 32 := Scalar.remsi v1919 v1921
  let c0_i32_1661 : BitVec 32 := 0#32
  let v1924 : BitVec 1 := Scalar.cmpi .slt v1922 c0_i32_1661
  let c0_i32_1662 : BitVec 32 := 0#32
  let v1925 : BitVec 1 := Scalar.cmpi .slt v1921 c0_i32_1662
  let v1926 : BitVec 1 := Scalar.xori v1924 v1925
  let c0_i32_1660 : BitVec 32 := 0#32
  let v1923 : BitVec 1 := Scalar.cmpi .ne v1922 c0_i32_1660
  let v1927 : BitVec 1 := Scalar.andi v1926 v1923
  let v1928 : BitVec 32 := Scalar.addi v1922 v1921
  let v1929 : BitVec 32 := Scalar.select v1927 v1928 v1922
  let c1_i32_1668 : BitVec 32 := 1#32
  let v1931 : BitVec 32 := Scalar.muli v1929 c1_i32_1668
  let v1932 : BitVec 32 := Scalar.addi c0_i32_1669 v1931
  v1932.toNat
def k0_dev60 (d0 : Dev nD) : Nat :=
  let c0_i32_1686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1673 : BitVec 32 := 15#32
  let v1940 : BitVec 32 := Scalar.addi v2 c15_i32_1673
  let c16_i32_1674 : BitVec 32 := 16#32
  let c0_i32_1675 : BitVec 32 := 0#32
  let v1941 : BitVec 1 := Scalar.cmpi .eq c16_i32_1674 c0_i32_1675
  let c1_i32_1676 : BitVec 32 := 1#32
  let v1942 : BitVec 32 := Scalar.select v1941 c1_i32_1676 c16_i32_1674
  let v1943 : BitVec 32 := Scalar.remsi v1940 v1942
  let c0_i32_1678 : BitVec 32 := 0#32
  let v1945 : BitVec 1 := Scalar.cmpi .slt v1943 c0_i32_1678
  let c0_i32_1679 : BitVec 32 := 0#32
  let v1946 : BitVec 1 := Scalar.cmpi .slt v1942 c0_i32_1679
  let v1947 : BitVec 1 := Scalar.xori v1945 v1946
  let c0_i32_1677 : BitVec 32 := 0#32
  let v1944 : BitVec 1 := Scalar.cmpi .ne v1943 c0_i32_1677
  let v1948 : BitVec 1 := Scalar.andi v1947 v1944
  let v1949 : BitVec 32 := Scalar.addi v1943 v1942
  let v1950 : BitVec 32 := Scalar.select v1948 v1949 v1943
  let c1_i32_1685 : BitVec 32 := 1#32
  let v1952 : BitVec 32 := Scalar.muli v1950 c1_i32_1685
  let v1953 : BitVec 32 := Scalar.addi c0_i32_1686 v1952
  v1953.toNat
def k0_dev61 (d0 : Dev nD) : Nat :=
  let c0_i32_1993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1979 : BitVec 32 := 1#32
  let v2331 : BitVec 32 := Scalar.addi v2 c1_i32_1979
  let c16_i32_1980 : BitVec 32 := 16#32
  let c0_i32_1981 : BitVec 32 := 0#32
  let v2332 : BitVec 1 := Scalar.cmpi .eq c16_i32_1980 c0_i32_1981
  let c1_i32_1982 : BitVec 32 := 1#32
  let v2333 : BitVec 32 := Scalar.select v2332 c1_i32_1982 c16_i32_1980
  let v2334 : BitVec 32 := Scalar.remsi v2331 v2333
  let c0_i32_1984 : BitVec 32 := 0#32
  let v2336 : BitVec 1 := Scalar.cmpi .slt v2334 c0_i32_1984
  let c0_i32_1985 : BitVec 32 := 0#32
  let v2337 : BitVec 1 := Scalar.cmpi .slt v2333 c0_i32_1985
  let v2338 : BitVec 1 := Scalar.xori v2336 v2337
  let c0_i32_1983 : BitVec 32 := 0#32
  let v2335 : BitVec 1 := Scalar.cmpi .ne v2334 c0_i32_1983
  let v2339 : BitVec 1 := Scalar.andi v2338 v2335
  let v2340 : BitVec 32 := Scalar.addi v2334 v2333
  let v2341 : BitVec 32 := Scalar.select v2339 v2340 v2334
  let c1_i32_1992 : BitVec 32 := 1#32
  let v2344 : BitVec 32 := Scalar.muli v2341 c1_i32_1992
  let v2345 : BitVec 32 := Scalar.addi c0_i32_1993 v2344
  v2345.toNat
def k0_dev62 (d0 : Dev nD) : Nat :=
  let c0_i32_2010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1996 : BitVec 32 := 2#32
  let v2352 : BitVec 32 := Scalar.addi v2 c2_i32_1996
  let c16_i32_1997 : BitVec 32 := 16#32
  let c0_i32_1998 : BitVec 32 := 0#32
  let v2353 : BitVec 1 := Scalar.cmpi .eq c16_i32_1997 c0_i32_1998
  let c1_i32_1999 : BitVec 32 := 1#32
  let v2354 : BitVec 32 := Scalar.select v2353 c1_i32_1999 c16_i32_1997
  let v2355 : BitVec 32 := Scalar.remsi v2352 v2354
  let c0_i32_2001 : BitVec 32 := 0#32
  let v2357 : BitVec 1 := Scalar.cmpi .slt v2355 c0_i32_2001
  let c0_i32_2002 : BitVec 32 := 0#32
  let v2358 : BitVec 1 := Scalar.cmpi .slt v2354 c0_i32_2002
  let v2359 : BitVec 1 := Scalar.xori v2357 v2358
  let c0_i32_2000 : BitVec 32 := 0#32
  let v2356 : BitVec 1 := Scalar.cmpi .ne v2355 c0_i32_2000
  let v2360 : BitVec 1 := Scalar.andi v2359 v2356
  let v2361 : BitVec 32 := Scalar.addi v2355 v2354
  let v2362 : BitVec 32 := Scalar.select v2360 v2361 v2355
  let c1_i32_2009 : BitVec 32 := 1#32
  let v2365 : BitVec 32 := Scalar.muli v2362 c1_i32_2009
  let v2366 : BitVec 32 := Scalar.addi c0_i32_2010 v2365
  v2366.toNat
def k0_dev63 (d0 : Dev nD) : Nat :=
  let c0_i32_2027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2013 : BitVec 32 := 3#32
  let v2373 : BitVec 32 := Scalar.addi v2 c3_i32_2013
  let c16_i32_2014 : BitVec 32 := 16#32
  let c0_i32_2015 : BitVec 32 := 0#32
  let v2374 : BitVec 1 := Scalar.cmpi .eq c16_i32_2014 c0_i32_2015
  let c1_i32_2016 : BitVec 32 := 1#32
  let v2375 : BitVec 32 := Scalar.select v2374 c1_i32_2016 c16_i32_2014
  let v2376 : BitVec 32 := Scalar.remsi v2373 v2375
  let c0_i32_2018 : BitVec 32 := 0#32
  let v2378 : BitVec 1 := Scalar.cmpi .slt v2376 c0_i32_2018
  let c0_i32_2019 : BitVec 32 := 0#32
  let v2379 : BitVec 1 := Scalar.cmpi .slt v2375 c0_i32_2019
  let v2380 : BitVec 1 := Scalar.xori v2378 v2379
  let c0_i32_2017 : BitVec 32 := 0#32
  let v2377 : BitVec 1 := Scalar.cmpi .ne v2376 c0_i32_2017
  let v2381 : BitVec 1 := Scalar.andi v2380 v2377
  let v2382 : BitVec 32 := Scalar.addi v2376 v2375
  let v2383 : BitVec 32 := Scalar.select v2381 v2382 v2376
  let c1_i32_2026 : BitVec 32 := 1#32
  let v2386 : BitVec 32 := Scalar.muli v2383 c1_i32_2026
  let v2387 : BitVec 32 := Scalar.addi c0_i32_2027 v2386
  v2387.toNat
def k0_dev64 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2030 : BitVec 32 := 4#32
  let v2394 : BitVec 32 := Scalar.addi v2 c4_i32_2030
  let c16_i32_2031 : BitVec 32 := 16#32
  let c0_i32_2032 : BitVec 32 := 0#32
  let v2395 : BitVec 1 := Scalar.cmpi .eq c16_i32_2031 c0_i32_2032
  let c1_i32_2033 : BitVec 32 := 1#32
  let v2396 : BitVec 32 := Scalar.select v2395 c1_i32_2033 c16_i32_2031
  let v2397 : BitVec 32 := Scalar.remsi v2394 v2396
  let c0_i32_2035 : BitVec 32 := 0#32
  let v2399 : BitVec 1 := Scalar.cmpi .slt v2397 c0_i32_2035
  let c0_i32_2036 : BitVec 32 := 0#32
  let v2400 : BitVec 1 := Scalar.cmpi .slt v2396 c0_i32_2036
  let v2401 : BitVec 1 := Scalar.xori v2399 v2400
  let c0_i32_2034 : BitVec 32 := 0#32
  let v2398 : BitVec 1 := Scalar.cmpi .ne v2397 c0_i32_2034
  let v2402 : BitVec 1 := Scalar.andi v2401 v2398
  let v2403 : BitVec 32 := Scalar.addi v2397 v2396
  let v2404 : BitVec 32 := Scalar.select v2402 v2403 v2397
  let c1_i32_2043 : BitVec 32 := 1#32
  let v2407 : BitVec 32 := Scalar.muli v2404 c1_i32_2043
  let v2408 : BitVec 32 := Scalar.addi c0_i32_2044 v2407
  v2408.toNat
def k0_dev65 (d0 : Dev nD) : Nat :=
  let c0_i32_2061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2047 : BitVec 32 := 5#32
  let v2415 : BitVec 32 := Scalar.addi v2 c5_i32_2047
  let c16_i32_2048 : BitVec 32 := 16#32
  let c0_i32_2049 : BitVec 32 := 0#32
  let v2416 : BitVec 1 := Scalar.cmpi .eq c16_i32_2048 c0_i32_2049
  let c1_i32_2050 : BitVec 32 := 1#32
  let v2417 : BitVec 32 := Scalar.select v2416 c1_i32_2050 c16_i32_2048
  let v2418 : BitVec 32 := Scalar.remsi v2415 v2417
  let c0_i32_2052 : BitVec 32 := 0#32
  let v2420 : BitVec 1 := Scalar.cmpi .slt v2418 c0_i32_2052
  let c0_i32_2053 : BitVec 32 := 0#32
  let v2421 : BitVec 1 := Scalar.cmpi .slt v2417 c0_i32_2053
  let v2422 : BitVec 1 := Scalar.xori v2420 v2421
  let c0_i32_2051 : BitVec 32 := 0#32
  let v2419 : BitVec 1 := Scalar.cmpi .ne v2418 c0_i32_2051
  let v2423 : BitVec 1 := Scalar.andi v2422 v2419
  let v2424 : BitVec 32 := Scalar.addi v2418 v2417
  let v2425 : BitVec 32 := Scalar.select v2423 v2424 v2418
  let c1_i32_2060 : BitVec 32 := 1#32
  let v2428 : BitVec 32 := Scalar.muli v2425 c1_i32_2060
  let v2429 : BitVec 32 := Scalar.addi c0_i32_2061 v2428
  v2429.toNat
def k0_dev66 (d0 : Dev nD) : Nat :=
  let c0_i32_2078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2064 : BitVec 32 := 6#32
  let v2436 : BitVec 32 := Scalar.addi v2 c6_i32_2064
  let c16_i32_2065 : BitVec 32 := 16#32
  let c0_i32_2066 : BitVec 32 := 0#32
  let v2437 : BitVec 1 := Scalar.cmpi .eq c16_i32_2065 c0_i32_2066
  let c1_i32_2067 : BitVec 32 := 1#32
  let v2438 : BitVec 32 := Scalar.select v2437 c1_i32_2067 c16_i32_2065
  let v2439 : BitVec 32 := Scalar.remsi v2436 v2438
  let c0_i32_2069 : BitVec 32 := 0#32
  let v2441 : BitVec 1 := Scalar.cmpi .slt v2439 c0_i32_2069
  let c0_i32_2070 : BitVec 32 := 0#32
  let v2442 : BitVec 1 := Scalar.cmpi .slt v2438 c0_i32_2070
  let v2443 : BitVec 1 := Scalar.xori v2441 v2442
  let c0_i32_2068 : BitVec 32 := 0#32
  let v2440 : BitVec 1 := Scalar.cmpi .ne v2439 c0_i32_2068
  let v2444 : BitVec 1 := Scalar.andi v2443 v2440
  let v2445 : BitVec 32 := Scalar.addi v2439 v2438
  let v2446 : BitVec 32 := Scalar.select v2444 v2445 v2439
  let c1_i32_2077 : BitVec 32 := 1#32
  let v2449 : BitVec 32 := Scalar.muli v2446 c1_i32_2077
  let v2450 : BitVec 32 := Scalar.addi c0_i32_2078 v2449
  v2450.toNat
def k0_dev67 (d0 : Dev nD) : Nat :=
  let c0_i32_2095 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2081 : BitVec 32 := 7#32
  let v2457 : BitVec 32 := Scalar.addi v2 c7_i32_2081
  let c16_i32_2082 : BitVec 32 := 16#32
  let c0_i32_2083 : BitVec 32 := 0#32
  let v2458 : BitVec 1 := Scalar.cmpi .eq c16_i32_2082 c0_i32_2083
  let c1_i32_2084 : BitVec 32 := 1#32
  let v2459 : BitVec 32 := Scalar.select v2458 c1_i32_2084 c16_i32_2082
  let v2460 : BitVec 32 := Scalar.remsi v2457 v2459
  let c0_i32_2086 : BitVec 32 := 0#32
  let v2462 : BitVec 1 := Scalar.cmpi .slt v2460 c0_i32_2086
  let c0_i32_2087 : BitVec 32 := 0#32
  let v2463 : BitVec 1 := Scalar.cmpi .slt v2459 c0_i32_2087
  let v2464 : BitVec 1 := Scalar.xori v2462 v2463
  let c0_i32_2085 : BitVec 32 := 0#32
  let v2461 : BitVec 1 := Scalar.cmpi .ne v2460 c0_i32_2085
  let v2465 : BitVec 1 := Scalar.andi v2464 v2461
  let v2466 : BitVec 32 := Scalar.addi v2460 v2459
  let v2467 : BitVec 32 := Scalar.select v2465 v2466 v2460
  let c1_i32_2094 : BitVec 32 := 1#32
  let v2470 : BitVec 32 := Scalar.muli v2467 c1_i32_2094
  let v2471 : BitVec 32 := Scalar.addi c0_i32_2095 v2470
  v2471.toNat
def k0_dev68 (d0 : Dev nD) : Nat :=
  let c0_i32_2112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2098 : BitVec 32 := 8#32
  let v2478 : BitVec 32 := Scalar.addi v2 c8_i32_2098
  let c16_i32_2099 : BitVec 32 := 16#32
  let c0_i32_2100 : BitVec 32 := 0#32
  let v2479 : BitVec 1 := Scalar.cmpi .eq c16_i32_2099 c0_i32_2100
  let c1_i32_2101 : BitVec 32 := 1#32
  let v2480 : BitVec 32 := Scalar.select v2479 c1_i32_2101 c16_i32_2099
  let v2481 : BitVec 32 := Scalar.remsi v2478 v2480
  let c0_i32_2103 : BitVec 32 := 0#32
  let v2483 : BitVec 1 := Scalar.cmpi .slt v2481 c0_i32_2103
  let c0_i32_2104 : BitVec 32 := 0#32
  let v2484 : BitVec 1 := Scalar.cmpi .slt v2480 c0_i32_2104
  let v2485 : BitVec 1 := Scalar.xori v2483 v2484
  let c0_i32_2102 : BitVec 32 := 0#32
  let v2482 : BitVec 1 := Scalar.cmpi .ne v2481 c0_i32_2102
  let v2486 : BitVec 1 := Scalar.andi v2485 v2482
  let v2487 : BitVec 32 := Scalar.addi v2481 v2480
  let v2488 : BitVec 32 := Scalar.select v2486 v2487 v2481
  let c1_i32_2111 : BitVec 32 := 1#32
  let v2491 : BitVec 32 := Scalar.muli v2488 c1_i32_2111
  let v2492 : BitVec 32 := Scalar.addi c0_i32_2112 v2491
  v2492.toNat
def k0_dev69 (d0 : Dev nD) : Nat :=
  let c0_i32_2129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2115 : BitVec 32 := 9#32
  let v2499 : BitVec 32 := Scalar.addi v2 c9_i32_2115
  let c16_i32_2116 : BitVec 32 := 16#32
  let c0_i32_2117 : BitVec 32 := 0#32
  let v2500 : BitVec 1 := Scalar.cmpi .eq c16_i32_2116 c0_i32_2117
  let c1_i32_2118 : BitVec 32 := 1#32
  let v2501 : BitVec 32 := Scalar.select v2500 c1_i32_2118 c16_i32_2116
  let v2502 : BitVec 32 := Scalar.remsi v2499 v2501
  let c0_i32_2120 : BitVec 32 := 0#32
  let v2504 : BitVec 1 := Scalar.cmpi .slt v2502 c0_i32_2120
  let c0_i32_2121 : BitVec 32 := 0#32
  let v2505 : BitVec 1 := Scalar.cmpi .slt v2501 c0_i32_2121
  let v2506 : BitVec 1 := Scalar.xori v2504 v2505
  let c0_i32_2119 : BitVec 32 := 0#32
  let v2503 : BitVec 1 := Scalar.cmpi .ne v2502 c0_i32_2119
  let v2507 : BitVec 1 := Scalar.andi v2506 v2503
  let v2508 : BitVec 32 := Scalar.addi v2502 v2501
  let v2509 : BitVec 32 := Scalar.select v2507 v2508 v2502
  let c1_i32_2128 : BitVec 32 := 1#32
  let v2512 : BitVec 32 := Scalar.muli v2509 c1_i32_2128
  let v2513 : BitVec 32 := Scalar.addi c0_i32_2129 v2512
  v2513.toNat
def k0_dev70 (d0 : Dev nD) : Nat :=
  let c0_i32_2146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2132 : BitVec 32 := 10#32
  let v2520 : BitVec 32 := Scalar.addi v2 c10_i32_2132
  let c16_i32_2133 : BitVec 32 := 16#32
  let c0_i32_2134 : BitVec 32 := 0#32
  let v2521 : BitVec 1 := Scalar.cmpi .eq c16_i32_2133 c0_i32_2134
  let c1_i32_2135 : BitVec 32 := 1#32
  let v2522 : BitVec 32 := Scalar.select v2521 c1_i32_2135 c16_i32_2133
  let v2523 : BitVec 32 := Scalar.remsi v2520 v2522
  let c0_i32_2137 : BitVec 32 := 0#32
  let v2525 : BitVec 1 := Scalar.cmpi .slt v2523 c0_i32_2137
  let c0_i32_2138 : BitVec 32 := 0#32
  let v2526 : BitVec 1 := Scalar.cmpi .slt v2522 c0_i32_2138
  let v2527 : BitVec 1 := Scalar.xori v2525 v2526
  let c0_i32_2136 : BitVec 32 := 0#32
  let v2524 : BitVec 1 := Scalar.cmpi .ne v2523 c0_i32_2136
  let v2528 : BitVec 1 := Scalar.andi v2527 v2524
  let v2529 : BitVec 32 := Scalar.addi v2523 v2522
  let v2530 : BitVec 32 := Scalar.select v2528 v2529 v2523
  let c1_i32_2145 : BitVec 32 := 1#32
  let v2533 : BitVec 32 := Scalar.muli v2530 c1_i32_2145
  let v2534 : BitVec 32 := Scalar.addi c0_i32_2146 v2533
  v2534.toNat
def k0_dev71 (d0 : Dev nD) : Nat :=
  let c0_i32_2163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2149 : BitVec 32 := 11#32
  let v2541 : BitVec 32 := Scalar.addi v2 c11_i32_2149
  let c16_i32_2150 : BitVec 32 := 16#32
  let c0_i32_2151 : BitVec 32 := 0#32
  let v2542 : BitVec 1 := Scalar.cmpi .eq c16_i32_2150 c0_i32_2151
  let c1_i32_2152 : BitVec 32 := 1#32
  let v2543 : BitVec 32 := Scalar.select v2542 c1_i32_2152 c16_i32_2150
  let v2544 : BitVec 32 := Scalar.remsi v2541 v2543
  let c0_i32_2154 : BitVec 32 := 0#32
  let v2546 : BitVec 1 := Scalar.cmpi .slt v2544 c0_i32_2154
  let c0_i32_2155 : BitVec 32 := 0#32
  let v2547 : BitVec 1 := Scalar.cmpi .slt v2543 c0_i32_2155
  let v2548 : BitVec 1 := Scalar.xori v2546 v2547
  let c0_i32_2153 : BitVec 32 := 0#32
  let v2545 : BitVec 1 := Scalar.cmpi .ne v2544 c0_i32_2153
  let v2549 : BitVec 1 := Scalar.andi v2548 v2545
  let v2550 : BitVec 32 := Scalar.addi v2544 v2543
  let v2551 : BitVec 32 := Scalar.select v2549 v2550 v2544
  let c1_i32_2162 : BitVec 32 := 1#32
  let v2554 : BitVec 32 := Scalar.muli v2551 c1_i32_2162
  let v2555 : BitVec 32 := Scalar.addi c0_i32_2163 v2554
  v2555.toNat
def k0_dev72 (d0 : Dev nD) : Nat :=
  let c0_i32_2180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2166 : BitVec 32 := 12#32
  let v2562 : BitVec 32 := Scalar.addi v2 c12_i32_2166
  let c16_i32_2167 : BitVec 32 := 16#32
  let c0_i32_2168 : BitVec 32 := 0#32
  let v2563 : BitVec 1 := Scalar.cmpi .eq c16_i32_2167 c0_i32_2168
  let c1_i32_2169 : BitVec 32 := 1#32
  let v2564 : BitVec 32 := Scalar.select v2563 c1_i32_2169 c16_i32_2167
  let v2565 : BitVec 32 := Scalar.remsi v2562 v2564
  let c0_i32_2171 : BitVec 32 := 0#32
  let v2567 : BitVec 1 := Scalar.cmpi .slt v2565 c0_i32_2171
  let c0_i32_2172 : BitVec 32 := 0#32
  let v2568 : BitVec 1 := Scalar.cmpi .slt v2564 c0_i32_2172
  let v2569 : BitVec 1 := Scalar.xori v2567 v2568
  let c0_i32_2170 : BitVec 32 := 0#32
  let v2566 : BitVec 1 := Scalar.cmpi .ne v2565 c0_i32_2170
  let v2570 : BitVec 1 := Scalar.andi v2569 v2566
  let v2571 : BitVec 32 := Scalar.addi v2565 v2564
  let v2572 : BitVec 32 := Scalar.select v2570 v2571 v2565
  let c1_i32_2179 : BitVec 32 := 1#32
  let v2575 : BitVec 32 := Scalar.muli v2572 c1_i32_2179
  let v2576 : BitVec 32 := Scalar.addi c0_i32_2180 v2575
  v2576.toNat
def k0_dev73 (d0 : Dev nD) : Nat :=
  let c0_i32_2197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2183 : BitVec 32 := 13#32
  let v2583 : BitVec 32 := Scalar.addi v2 c13_i32_2183
  let c16_i32_2184 : BitVec 32 := 16#32
  let c0_i32_2185 : BitVec 32 := 0#32
  let v2584 : BitVec 1 := Scalar.cmpi .eq c16_i32_2184 c0_i32_2185
  let c1_i32_2186 : BitVec 32 := 1#32
  let v2585 : BitVec 32 := Scalar.select v2584 c1_i32_2186 c16_i32_2184
  let v2586 : BitVec 32 := Scalar.remsi v2583 v2585
  let c0_i32_2188 : BitVec 32 := 0#32
  let v2588 : BitVec 1 := Scalar.cmpi .slt v2586 c0_i32_2188
  let c0_i32_2189 : BitVec 32 := 0#32
  let v2589 : BitVec 1 := Scalar.cmpi .slt v2585 c0_i32_2189
  let v2590 : BitVec 1 := Scalar.xori v2588 v2589
  let c0_i32_2187 : BitVec 32 := 0#32
  let v2587 : BitVec 1 := Scalar.cmpi .ne v2586 c0_i32_2187
  let v2591 : BitVec 1 := Scalar.andi v2590 v2587
  let v2592 : BitVec 32 := Scalar.addi v2586 v2585
  let v2593 : BitVec 32 := Scalar.select v2591 v2592 v2586
  let c1_i32_2196 : BitVec 32 := 1#32
  let v2596 : BitVec 32 := Scalar.muli v2593 c1_i32_2196
  let v2597 : BitVec 32 := Scalar.addi c0_i32_2197 v2596
  v2597.toNat
def k0_dev74 (d0 : Dev nD) : Nat :=
  let c0_i32_2214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2200 : BitVec 32 := 14#32
  let v2604 : BitVec 32 := Scalar.addi v2 c14_i32_2200
  let c16_i32_2201 : BitVec 32 := 16#32
  let c0_i32_2202 : BitVec 32 := 0#32
  let v2605 : BitVec 1 := Scalar.cmpi .eq c16_i32_2201 c0_i32_2202
  let c1_i32_2203 : BitVec 32 := 1#32
  let v2606 : BitVec 32 := Scalar.select v2605 c1_i32_2203 c16_i32_2201
  let v2607 : BitVec 32 := Scalar.remsi v2604 v2606
  let c0_i32_2205 : BitVec 32 := 0#32
  let v2609 : BitVec 1 := Scalar.cmpi .slt v2607 c0_i32_2205
  let c0_i32_2206 : BitVec 32 := 0#32
  let v2610 : BitVec 1 := Scalar.cmpi .slt v2606 c0_i32_2206
  let v2611 : BitVec 1 := Scalar.xori v2609 v2610
  let c0_i32_2204 : BitVec 32 := 0#32
  let v2608 : BitVec 1 := Scalar.cmpi .ne v2607 c0_i32_2204
  let v2612 : BitVec 1 := Scalar.andi v2611 v2608
  let v2613 : BitVec 32 := Scalar.addi v2607 v2606
  let v2614 : BitVec 32 := Scalar.select v2612 v2613 v2607
  let c1_i32_2213 : BitVec 32 := 1#32
  let v2617 : BitVec 32 := Scalar.muli v2614 c1_i32_2213
  let v2618 : BitVec 32 := Scalar.addi c0_i32_2214 v2617
  v2618.toNat
def k0_dev75 (d0 : Dev nD) : Nat :=
  let c0_i32_2231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2217 : BitVec 32 := 15#32
  let v2625 : BitVec 32 := Scalar.addi v2 c15_i32_2217
  let c16_i32_2218 : BitVec 32 := 16#32
  let c0_i32_2219 : BitVec 32 := 0#32
  let v2626 : BitVec 1 := Scalar.cmpi .eq c16_i32_2218 c0_i32_2219
  let c1_i32_2220 : BitVec 32 := 1#32
  let v2627 : BitVec 32 := Scalar.select v2626 c1_i32_2220 c16_i32_2218
  let v2628 : BitVec 32 := Scalar.remsi v2625 v2627
  let c0_i32_2222 : BitVec 32 := 0#32
  let v2630 : BitVec 1 := Scalar.cmpi .slt v2628 c0_i32_2222
  let c0_i32_2223 : BitVec 32 := 0#32
  let v2631 : BitVec 1 := Scalar.cmpi .slt v2627 c0_i32_2223
  let v2632 : BitVec 1 := Scalar.xori v2630 v2631
  let c0_i32_2221 : BitVec 32 := 0#32
  let v2629 : BitVec 1 := Scalar.cmpi .ne v2628 c0_i32_2221
  let v2633 : BitVec 1 := Scalar.andi v2632 v2629
  let v2634 : BitVec 32 := Scalar.addi v2628 v2627
  let v2635 : BitVec 32 := Scalar.select v2633 v2634 v2628
  let c1_i32_2230 : BitVec 32 := 1#32
  let v2638 : BitVec 32 := Scalar.muli v2635 c1_i32_2230
  let v2639 : BitVec 32 := Scalar.addi c0_i32_2231 v2638
  v2639.toNat
def k0_dev76 (d0 : Dev nD) : Nat :=
  let c0_i32_2738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2725 : BitVec 32 := 1#32
  let v3079 : BitVec 32 := Scalar.addi v2 c1_i32_2725
  let c16_i32_2726 : BitVec 32 := 16#32
  let c0_i32_2727 : BitVec 32 := 0#32
  let v3080 : BitVec 1 := Scalar.cmpi .eq c16_i32_2726 c0_i32_2727
  let c1_i32_2728 : BitVec 32 := 1#32
  let v3081 : BitVec 32 := Scalar.select v3080 c1_i32_2728 c16_i32_2726
  let v3082 : BitVec 32 := Scalar.remsi v3079 v3081
  let c0_i32_2730 : BitVec 32 := 0#32
  let v3084 : BitVec 1 := Scalar.cmpi .slt v3082 c0_i32_2730
  let c0_i32_2731 : BitVec 32 := 0#32
  let v3085 : BitVec 1 := Scalar.cmpi .slt v3081 c0_i32_2731
  let v3086 : BitVec 1 := Scalar.xori v3084 v3085
  let c0_i32_2729 : BitVec 32 := 0#32
  let v3083 : BitVec 1 := Scalar.cmpi .ne v3082 c0_i32_2729
  let v3087 : BitVec 1 := Scalar.andi v3086 v3083
  let v3088 : BitVec 32 := Scalar.addi v3082 v3081
  let v3089 : BitVec 32 := Scalar.select v3087 v3088 v3082
  let c1_i32_2737 : BitVec 32 := 1#32
  let v3091 : BitVec 32 := Scalar.muli v3089 c1_i32_2737
  let v3092 : BitVec 32 := Scalar.addi c0_i32_2738 v3091
  v3092.toNat
def k0_dev77 (d0 : Dev nD) : Nat :=
  let c0_i32_2755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2742 : BitVec 32 := 2#32
  let v3100 : BitVec 32 := Scalar.addi v2 c2_i32_2742
  let c16_i32_2743 : BitVec 32 := 16#32
  let c0_i32_2744 : BitVec 32 := 0#32
  let v3101 : BitVec 1 := Scalar.cmpi .eq c16_i32_2743 c0_i32_2744
  let c1_i32_2745 : BitVec 32 := 1#32
  let v3102 : BitVec 32 := Scalar.select v3101 c1_i32_2745 c16_i32_2743
  let v3103 : BitVec 32 := Scalar.remsi v3100 v3102
  let c0_i32_2747 : BitVec 32 := 0#32
  let v3105 : BitVec 1 := Scalar.cmpi .slt v3103 c0_i32_2747
  let c0_i32_2748 : BitVec 32 := 0#32
  let v3106 : BitVec 1 := Scalar.cmpi .slt v3102 c0_i32_2748
  let v3107 : BitVec 1 := Scalar.xori v3105 v3106
  let c0_i32_2746 : BitVec 32 := 0#32
  let v3104 : BitVec 1 := Scalar.cmpi .ne v3103 c0_i32_2746
  let v3108 : BitVec 1 := Scalar.andi v3107 v3104
  let v3109 : BitVec 32 := Scalar.addi v3103 v3102
  let v3110 : BitVec 32 := Scalar.select v3108 v3109 v3103
  let c1_i32_2754 : BitVec 32 := 1#32
  let v3112 : BitVec 32 := Scalar.muli v3110 c1_i32_2754
  let v3113 : BitVec 32 := Scalar.addi c0_i32_2755 v3112
  v3113.toNat
def k0_dev78 (d0 : Dev nD) : Nat :=
  let c0_i32_2772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2759 : BitVec 32 := 3#32
  let v3121 : BitVec 32 := Scalar.addi v2 c3_i32_2759
  let c16_i32_2760 : BitVec 32 := 16#32
  let c0_i32_2761 : BitVec 32 := 0#32
  let v3122 : BitVec 1 := Scalar.cmpi .eq c16_i32_2760 c0_i32_2761
  let c1_i32_2762 : BitVec 32 := 1#32
  let v3123 : BitVec 32 := Scalar.select v3122 c1_i32_2762 c16_i32_2760
  let v3124 : BitVec 32 := Scalar.remsi v3121 v3123
  let c0_i32_2764 : BitVec 32 := 0#32
  let v3126 : BitVec 1 := Scalar.cmpi .slt v3124 c0_i32_2764
  let c0_i32_2765 : BitVec 32 := 0#32
  let v3127 : BitVec 1 := Scalar.cmpi .slt v3123 c0_i32_2765
  let v3128 : BitVec 1 := Scalar.xori v3126 v3127
  let c0_i32_2763 : BitVec 32 := 0#32
  let v3125 : BitVec 1 := Scalar.cmpi .ne v3124 c0_i32_2763
  let v3129 : BitVec 1 := Scalar.andi v3128 v3125
  let v3130 : BitVec 32 := Scalar.addi v3124 v3123
  let v3131 : BitVec 32 := Scalar.select v3129 v3130 v3124
  let c1_i32_2771 : BitVec 32 := 1#32
  let v3133 : BitVec 32 := Scalar.muli v3131 c1_i32_2771
  let v3134 : BitVec 32 := Scalar.addi c0_i32_2772 v3133
  v3134.toNat
def k0_dev79 (d0 : Dev nD) : Nat :=
  let c0_i32_2789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2776 : BitVec 32 := 4#32
  let v3142 : BitVec 32 := Scalar.addi v2 c4_i32_2776
  let c16_i32_2777 : BitVec 32 := 16#32
  let c0_i32_2778 : BitVec 32 := 0#32
  let v3143 : BitVec 1 := Scalar.cmpi .eq c16_i32_2777 c0_i32_2778
  let c1_i32_2779 : BitVec 32 := 1#32
  let v3144 : BitVec 32 := Scalar.select v3143 c1_i32_2779 c16_i32_2777
  let v3145 : BitVec 32 := Scalar.remsi v3142 v3144
  let c0_i32_2781 : BitVec 32 := 0#32
  let v3147 : BitVec 1 := Scalar.cmpi .slt v3145 c0_i32_2781
  let c0_i32_2782 : BitVec 32 := 0#32
  let v3148 : BitVec 1 := Scalar.cmpi .slt v3144 c0_i32_2782
  let v3149 : BitVec 1 := Scalar.xori v3147 v3148
  let c0_i32_2780 : BitVec 32 := 0#32
  let v3146 : BitVec 1 := Scalar.cmpi .ne v3145 c0_i32_2780
  let v3150 : BitVec 1 := Scalar.andi v3149 v3146
  let v3151 : BitVec 32 := Scalar.addi v3145 v3144
  let v3152 : BitVec 32 := Scalar.select v3150 v3151 v3145
  let c1_i32_2788 : BitVec 32 := 1#32
  let v3154 : BitVec 32 := Scalar.muli v3152 c1_i32_2788
  let v3155 : BitVec 32 := Scalar.addi c0_i32_2789 v3154
  v3155.toNat
def k0_dev80 (d0 : Dev nD) : Nat :=
  let c0_i32_2806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2793 : BitVec 32 := 5#32
  let v3163 : BitVec 32 := Scalar.addi v2 c5_i32_2793
  let c16_i32_2794 : BitVec 32 := 16#32
  let c0_i32_2795 : BitVec 32 := 0#32
  let v3164 : BitVec 1 := Scalar.cmpi .eq c16_i32_2794 c0_i32_2795
  let c1_i32_2796 : BitVec 32 := 1#32
  let v3165 : BitVec 32 := Scalar.select v3164 c1_i32_2796 c16_i32_2794
  let v3166 : BitVec 32 := Scalar.remsi v3163 v3165
  let c0_i32_2798 : BitVec 32 := 0#32
  let v3168 : BitVec 1 := Scalar.cmpi .slt v3166 c0_i32_2798
  let c0_i32_2799 : BitVec 32 := 0#32
  let v3169 : BitVec 1 := Scalar.cmpi .slt v3165 c0_i32_2799
  let v3170 : BitVec 1 := Scalar.xori v3168 v3169
  let c0_i32_2797 : BitVec 32 := 0#32
  let v3167 : BitVec 1 := Scalar.cmpi .ne v3166 c0_i32_2797
  let v3171 : BitVec 1 := Scalar.andi v3170 v3167
  let v3172 : BitVec 32 := Scalar.addi v3166 v3165
  let v3173 : BitVec 32 := Scalar.select v3171 v3172 v3166
  let c1_i32_2805 : BitVec 32 := 1#32
  let v3175 : BitVec 32 := Scalar.muli v3173 c1_i32_2805
  let v3176 : BitVec 32 := Scalar.addi c0_i32_2806 v3175
  v3176.toNat
def k0_dev81 (d0 : Dev nD) : Nat :=
  let c0_i32_2823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2810 : BitVec 32 := 6#32
  let v3184 : BitVec 32 := Scalar.addi v2 c6_i32_2810
  let c16_i32_2811 : BitVec 32 := 16#32
  let c0_i32_2812 : BitVec 32 := 0#32
  let v3185 : BitVec 1 := Scalar.cmpi .eq c16_i32_2811 c0_i32_2812
  let c1_i32_2813 : BitVec 32 := 1#32
  let v3186 : BitVec 32 := Scalar.select v3185 c1_i32_2813 c16_i32_2811
  let v3187 : BitVec 32 := Scalar.remsi v3184 v3186
  let c0_i32_2815 : BitVec 32 := 0#32
  let v3189 : BitVec 1 := Scalar.cmpi .slt v3187 c0_i32_2815
  let c0_i32_2816 : BitVec 32 := 0#32
  let v3190 : BitVec 1 := Scalar.cmpi .slt v3186 c0_i32_2816
  let v3191 : BitVec 1 := Scalar.xori v3189 v3190
  let c0_i32_2814 : BitVec 32 := 0#32
  let v3188 : BitVec 1 := Scalar.cmpi .ne v3187 c0_i32_2814
  let v3192 : BitVec 1 := Scalar.andi v3191 v3188
  let v3193 : BitVec 32 := Scalar.addi v3187 v3186
  let v3194 : BitVec 32 := Scalar.select v3192 v3193 v3187
  let c1_i32_2822 : BitVec 32 := 1#32
  let v3196 : BitVec 32 := Scalar.muli v3194 c1_i32_2822
  let v3197 : BitVec 32 := Scalar.addi c0_i32_2823 v3196
  v3197.toNat
def k0_dev82 (d0 : Dev nD) : Nat :=
  let c0_i32_2840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2827 : BitVec 32 := 7#32
  let v3205 : BitVec 32 := Scalar.addi v2 c7_i32_2827
  let c16_i32_2828 : BitVec 32 := 16#32
  let c0_i32_2829 : BitVec 32 := 0#32
  let v3206 : BitVec 1 := Scalar.cmpi .eq c16_i32_2828 c0_i32_2829
  let c1_i32_2830 : BitVec 32 := 1#32
  let v3207 : BitVec 32 := Scalar.select v3206 c1_i32_2830 c16_i32_2828
  let v3208 : BitVec 32 := Scalar.remsi v3205 v3207
  let c0_i32_2832 : BitVec 32 := 0#32
  let v3210 : BitVec 1 := Scalar.cmpi .slt v3208 c0_i32_2832
  let c0_i32_2833 : BitVec 32 := 0#32
  let v3211 : BitVec 1 := Scalar.cmpi .slt v3207 c0_i32_2833
  let v3212 : BitVec 1 := Scalar.xori v3210 v3211
  let c0_i32_2831 : BitVec 32 := 0#32
  let v3209 : BitVec 1 := Scalar.cmpi .ne v3208 c0_i32_2831
  let v3213 : BitVec 1 := Scalar.andi v3212 v3209
  let v3214 : BitVec 32 := Scalar.addi v3208 v3207
  let v3215 : BitVec 32 := Scalar.select v3213 v3214 v3208
  let c1_i32_2839 : BitVec 32 := 1#32
  let v3217 : BitVec 32 := Scalar.muli v3215 c1_i32_2839
  let v3218 : BitVec 32 := Scalar.addi c0_i32_2840 v3217
  v3218.toNat
def k0_dev83 (d0 : Dev nD) : Nat :=
  let c0_i32_2857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2844 : BitVec 32 := 8#32
  let v3226 : BitVec 32 := Scalar.addi v2 c8_i32_2844
  let c16_i32_2845 : BitVec 32 := 16#32
  let c0_i32_2846 : BitVec 32 := 0#32
  let v3227 : BitVec 1 := Scalar.cmpi .eq c16_i32_2845 c0_i32_2846
  let c1_i32_2847 : BitVec 32 := 1#32
  let v3228 : BitVec 32 := Scalar.select v3227 c1_i32_2847 c16_i32_2845
  let v3229 : BitVec 32 := Scalar.remsi v3226 v3228
  let c0_i32_2849 : BitVec 32 := 0#32
  let v3231 : BitVec 1 := Scalar.cmpi .slt v3229 c0_i32_2849
  let c0_i32_2850 : BitVec 32 := 0#32
  let v3232 : BitVec 1 := Scalar.cmpi .slt v3228 c0_i32_2850
  let v3233 : BitVec 1 := Scalar.xori v3231 v3232
  let c0_i32_2848 : BitVec 32 := 0#32
  let v3230 : BitVec 1 := Scalar.cmpi .ne v3229 c0_i32_2848
  let v3234 : BitVec 1 := Scalar.andi v3233 v3230
  let v3235 : BitVec 32 := Scalar.addi v3229 v3228
  let v3236 : BitVec 32 := Scalar.select v3234 v3235 v3229
  let c1_i32_2856 : BitVec 32 := 1#32
  let v3238 : BitVec 32 := Scalar.muli v3236 c1_i32_2856
  let v3239 : BitVec 32 := Scalar.addi c0_i32_2857 v3238
  v3239.toNat
def k0_dev84 (d0 : Dev nD) : Nat :=
  let c0_i32_2874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2861 : BitVec 32 := 9#32
  let v3247 : BitVec 32 := Scalar.addi v2 c9_i32_2861
  let c16_i32_2862 : BitVec 32 := 16#32
  let c0_i32_2863 : BitVec 32 := 0#32
  let v3248 : BitVec 1 := Scalar.cmpi .eq c16_i32_2862 c0_i32_2863
  let c1_i32_2864 : BitVec 32 := 1#32
  let v3249 : BitVec 32 := Scalar.select v3248 c1_i32_2864 c16_i32_2862
  let v3250 : BitVec 32 := Scalar.remsi v3247 v3249
  let c0_i32_2866 : BitVec 32 := 0#32
  let v3252 : BitVec 1 := Scalar.cmpi .slt v3250 c0_i32_2866
  let c0_i32_2867 : BitVec 32 := 0#32
  let v3253 : BitVec 1 := Scalar.cmpi .slt v3249 c0_i32_2867
  let v3254 : BitVec 1 := Scalar.xori v3252 v3253
  let c0_i32_2865 : BitVec 32 := 0#32
  let v3251 : BitVec 1 := Scalar.cmpi .ne v3250 c0_i32_2865
  let v3255 : BitVec 1 := Scalar.andi v3254 v3251
  let v3256 : BitVec 32 := Scalar.addi v3250 v3249
  let v3257 : BitVec 32 := Scalar.select v3255 v3256 v3250
  let c1_i32_2873 : BitVec 32 := 1#32
  let v3259 : BitVec 32 := Scalar.muli v3257 c1_i32_2873
  let v3260 : BitVec 32 := Scalar.addi c0_i32_2874 v3259
  v3260.toNat
def k0_dev85 (d0 : Dev nD) : Nat :=
  let c0_i32_2891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2878 : BitVec 32 := 10#32
  let v3268 : BitVec 32 := Scalar.addi v2 c10_i32_2878
  let c16_i32_2879 : BitVec 32 := 16#32
  let c0_i32_2880 : BitVec 32 := 0#32
  let v3269 : BitVec 1 := Scalar.cmpi .eq c16_i32_2879 c0_i32_2880
  let c1_i32_2881 : BitVec 32 := 1#32
  let v3270 : BitVec 32 := Scalar.select v3269 c1_i32_2881 c16_i32_2879
  let v3271 : BitVec 32 := Scalar.remsi v3268 v3270
  let c0_i32_2883 : BitVec 32 := 0#32
  let v3273 : BitVec 1 := Scalar.cmpi .slt v3271 c0_i32_2883
  let c0_i32_2884 : BitVec 32 := 0#32
  let v3274 : BitVec 1 := Scalar.cmpi .slt v3270 c0_i32_2884
  let v3275 : BitVec 1 := Scalar.xori v3273 v3274
  let c0_i32_2882 : BitVec 32 := 0#32
  let v3272 : BitVec 1 := Scalar.cmpi .ne v3271 c0_i32_2882
  let v3276 : BitVec 1 := Scalar.andi v3275 v3272
  let v3277 : BitVec 32 := Scalar.addi v3271 v3270
  let v3278 : BitVec 32 := Scalar.select v3276 v3277 v3271
  let c1_i32_2890 : BitVec 32 := 1#32
  let v3280 : BitVec 32 := Scalar.muli v3278 c1_i32_2890
  let v3281 : BitVec 32 := Scalar.addi c0_i32_2891 v3280
  v3281.toNat
def k0_dev86 (d0 : Dev nD) : Nat :=
  let c0_i32_2908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2895 : BitVec 32 := 11#32
  let v3289 : BitVec 32 := Scalar.addi v2 c11_i32_2895
  let c16_i32_2896 : BitVec 32 := 16#32
  let c0_i32_2897 : BitVec 32 := 0#32
  let v3290 : BitVec 1 := Scalar.cmpi .eq c16_i32_2896 c0_i32_2897
  let c1_i32_2898 : BitVec 32 := 1#32
  let v3291 : BitVec 32 := Scalar.select v3290 c1_i32_2898 c16_i32_2896
  let v3292 : BitVec 32 := Scalar.remsi v3289 v3291
  let c0_i32_2900 : BitVec 32 := 0#32
  let v3294 : BitVec 1 := Scalar.cmpi .slt v3292 c0_i32_2900
  let c0_i32_2901 : BitVec 32 := 0#32
  let v3295 : BitVec 1 := Scalar.cmpi .slt v3291 c0_i32_2901
  let v3296 : BitVec 1 := Scalar.xori v3294 v3295
  let c0_i32_2899 : BitVec 32 := 0#32
  let v3293 : BitVec 1 := Scalar.cmpi .ne v3292 c0_i32_2899
  let v3297 : BitVec 1 := Scalar.andi v3296 v3293
  let v3298 : BitVec 32 := Scalar.addi v3292 v3291
  let v3299 : BitVec 32 := Scalar.select v3297 v3298 v3292
  let c1_i32_2907 : BitVec 32 := 1#32
  let v3301 : BitVec 32 := Scalar.muli v3299 c1_i32_2907
  let v3302 : BitVec 32 := Scalar.addi c0_i32_2908 v3301
  v3302.toNat
def k0_dev87 (d0 : Dev nD) : Nat :=
  let c0_i32_2925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2912 : BitVec 32 := 12#32
  let v3310 : BitVec 32 := Scalar.addi v2 c12_i32_2912
  let c16_i32_2913 : BitVec 32 := 16#32
  let c0_i32_2914 : BitVec 32 := 0#32
  let v3311 : BitVec 1 := Scalar.cmpi .eq c16_i32_2913 c0_i32_2914
  let c1_i32_2915 : BitVec 32 := 1#32
  let v3312 : BitVec 32 := Scalar.select v3311 c1_i32_2915 c16_i32_2913
  let v3313 : BitVec 32 := Scalar.remsi v3310 v3312
  let c0_i32_2917 : BitVec 32 := 0#32
  let v3315 : BitVec 1 := Scalar.cmpi .slt v3313 c0_i32_2917
  let c0_i32_2918 : BitVec 32 := 0#32
  let v3316 : BitVec 1 := Scalar.cmpi .slt v3312 c0_i32_2918
  let v3317 : BitVec 1 := Scalar.xori v3315 v3316
  let c0_i32_2916 : BitVec 32 := 0#32
  let v3314 : BitVec 1 := Scalar.cmpi .ne v3313 c0_i32_2916
  let v3318 : BitVec 1 := Scalar.andi v3317 v3314
  let v3319 : BitVec 32 := Scalar.addi v3313 v3312
  let v3320 : BitVec 32 := Scalar.select v3318 v3319 v3313
  let c1_i32_2924 : BitVec 32 := 1#32
  let v3322 : BitVec 32 := Scalar.muli v3320 c1_i32_2924
  let v3323 : BitVec 32 := Scalar.addi c0_i32_2925 v3322
  v3323.toNat
def k0_dev88 (d0 : Dev nD) : Nat :=
  let c0_i32_2942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2929 : BitVec 32 := 13#32
  let v3331 : BitVec 32 := Scalar.addi v2 c13_i32_2929
  let c16_i32_2930 : BitVec 32 := 16#32
  let c0_i32_2931 : BitVec 32 := 0#32
  let v3332 : BitVec 1 := Scalar.cmpi .eq c16_i32_2930 c0_i32_2931
  let c1_i32_2932 : BitVec 32 := 1#32
  let v3333 : BitVec 32 := Scalar.select v3332 c1_i32_2932 c16_i32_2930
  let v3334 : BitVec 32 := Scalar.remsi v3331 v3333
  let c0_i32_2934 : BitVec 32 := 0#32
  let v3336 : BitVec 1 := Scalar.cmpi .slt v3334 c0_i32_2934
  let c0_i32_2935 : BitVec 32 := 0#32
  let v3337 : BitVec 1 := Scalar.cmpi .slt v3333 c0_i32_2935
  let v3338 : BitVec 1 := Scalar.xori v3336 v3337
  let c0_i32_2933 : BitVec 32 := 0#32
  let v3335 : BitVec 1 := Scalar.cmpi .ne v3334 c0_i32_2933
  let v3339 : BitVec 1 := Scalar.andi v3338 v3335
  let v3340 : BitVec 32 := Scalar.addi v3334 v3333
  let v3341 : BitVec 32 := Scalar.select v3339 v3340 v3334
  let c1_i32_2941 : BitVec 32 := 1#32
  let v3343 : BitVec 32 := Scalar.muli v3341 c1_i32_2941
  let v3344 : BitVec 32 := Scalar.addi c0_i32_2942 v3343
  v3344.toNat
def k0_dev89 (d0 : Dev nD) : Nat :=
  let c0_i32_2959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2946 : BitVec 32 := 14#32
  let v3352 : BitVec 32 := Scalar.addi v2 c14_i32_2946
  let c16_i32_2947 : BitVec 32 := 16#32
  let c0_i32_2948 : BitVec 32 := 0#32
  let v3353 : BitVec 1 := Scalar.cmpi .eq c16_i32_2947 c0_i32_2948
  let c1_i32_2949 : BitVec 32 := 1#32
  let v3354 : BitVec 32 := Scalar.select v3353 c1_i32_2949 c16_i32_2947
  let v3355 : BitVec 32 := Scalar.remsi v3352 v3354
  let c0_i32_2951 : BitVec 32 := 0#32
  let v3357 : BitVec 1 := Scalar.cmpi .slt v3355 c0_i32_2951
  let c0_i32_2952 : BitVec 32 := 0#32
  let v3358 : BitVec 1 := Scalar.cmpi .slt v3354 c0_i32_2952
  let v3359 : BitVec 1 := Scalar.xori v3357 v3358
  let c0_i32_2950 : BitVec 32 := 0#32
  let v3356 : BitVec 1 := Scalar.cmpi .ne v3355 c0_i32_2950
  let v3360 : BitVec 1 := Scalar.andi v3359 v3356
  let v3361 : BitVec 32 := Scalar.addi v3355 v3354
  let v3362 : BitVec 32 := Scalar.select v3360 v3361 v3355
  let c1_i32_2958 : BitVec 32 := 1#32
  let v3364 : BitVec 32 := Scalar.muli v3362 c1_i32_2958
  let v3365 : BitVec 32 := Scalar.addi c0_i32_2959 v3364
  v3365.toNat
def k0_dev90 (d0 : Dev nD) : Nat :=
  let c0_i32_2976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2963 : BitVec 32 := 15#32
  let v3373 : BitVec 32 := Scalar.addi v2 c15_i32_2963
  let c16_i32_2964 : BitVec 32 := 16#32
  let c0_i32_2965 : BitVec 32 := 0#32
  let v3374 : BitVec 1 := Scalar.cmpi .eq c16_i32_2964 c0_i32_2965
  let c1_i32_2966 : BitVec 32 := 1#32
  let v3375 : BitVec 32 := Scalar.select v3374 c1_i32_2966 c16_i32_2964
  let v3376 : BitVec 32 := Scalar.remsi v3373 v3375
  let c0_i32_2968 : BitVec 32 := 0#32
  let v3378 : BitVec 1 := Scalar.cmpi .slt v3376 c0_i32_2968
  let c0_i32_2969 : BitVec 32 := 0#32
  let v3379 : BitVec 1 := Scalar.cmpi .slt v3375 c0_i32_2969
  let v3380 : BitVec 1 := Scalar.xori v3378 v3379
  let c0_i32_2967 : BitVec 32 := 0#32
  let v3377 : BitVec 1 := Scalar.cmpi .ne v3376 c0_i32_2967
  let v3381 : BitVec 1 := Scalar.andi v3380 v3377
  let v3382 : BitVec 32 := Scalar.addi v3376 v3375
  let v3383 : BitVec 32 := Scalar.select v3381 v3382 v3376
  let c1_i32_2975 : BitVec 32 := 1#32
  let v3385 : BitVec 32 := Scalar.muli v3383 c1_i32_2975
  let v3386 : BitVec 32 := Scalar.addi c0_i32_2976 v3385
  v3386.toNat
def k0_dev91 (d0 : Dev nD) : Nat :=
  let c0_i32_3283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3269 : BitVec 32 := 1#32
  let v3764 : BitVec 32 := Scalar.addi v2 c1_i32_3269
  let c16_i32_3270 : BitVec 32 := 16#32
  let c0_i32_3271 : BitVec 32 := 0#32
  let v3765 : BitVec 1 := Scalar.cmpi .eq c16_i32_3270 c0_i32_3271
  let c1_i32_3272 : BitVec 32 := 1#32
  let v3766 : BitVec 32 := Scalar.select v3765 c1_i32_3272 c16_i32_3270
  let v3767 : BitVec 32 := Scalar.remsi v3764 v3766
  let c0_i32_3274 : BitVec 32 := 0#32
  let v3769 : BitVec 1 := Scalar.cmpi .slt v3767 c0_i32_3274
  let c0_i32_3275 : BitVec 32 := 0#32
  let v3770 : BitVec 1 := Scalar.cmpi .slt v3766 c0_i32_3275
  let v3771 : BitVec 1 := Scalar.xori v3769 v3770
  let c0_i32_3273 : BitVec 32 := 0#32
  let v3768 : BitVec 1 := Scalar.cmpi .ne v3767 c0_i32_3273
  let v3772 : BitVec 1 := Scalar.andi v3771 v3768
  let v3773 : BitVec 32 := Scalar.addi v3767 v3766
  let v3774 : BitVec 32 := Scalar.select v3772 v3773 v3767
  let c1_i32_3282 : BitVec 32 := 1#32
  let v3777 : BitVec 32 := Scalar.muli v3774 c1_i32_3282
  let v3778 : BitVec 32 := Scalar.addi c0_i32_3283 v3777
  v3778.toNat
def k0_dev92 (d0 : Dev nD) : Nat :=
  let c0_i32_3300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3286 : BitVec 32 := 2#32
  let v3785 : BitVec 32 := Scalar.addi v2 c2_i32_3286
  let c16_i32_3287 : BitVec 32 := 16#32
  let c0_i32_3288 : BitVec 32 := 0#32
  let v3786 : BitVec 1 := Scalar.cmpi .eq c16_i32_3287 c0_i32_3288
  let c1_i32_3289 : BitVec 32 := 1#32
  let v3787 : BitVec 32 := Scalar.select v3786 c1_i32_3289 c16_i32_3287
  let v3788 : BitVec 32 := Scalar.remsi v3785 v3787
  let c0_i32_3291 : BitVec 32 := 0#32
  let v3790 : BitVec 1 := Scalar.cmpi .slt v3788 c0_i32_3291
  let c0_i32_3292 : BitVec 32 := 0#32
  let v3791 : BitVec 1 := Scalar.cmpi .slt v3787 c0_i32_3292
  let v3792 : BitVec 1 := Scalar.xori v3790 v3791
  let c0_i32_3290 : BitVec 32 := 0#32
  let v3789 : BitVec 1 := Scalar.cmpi .ne v3788 c0_i32_3290
  let v3793 : BitVec 1 := Scalar.andi v3792 v3789
  let v3794 : BitVec 32 := Scalar.addi v3788 v3787
  let v3795 : BitVec 32 := Scalar.select v3793 v3794 v3788
  let c1_i32_3299 : BitVec 32 := 1#32
  let v3798 : BitVec 32 := Scalar.muli v3795 c1_i32_3299
  let v3799 : BitVec 32 := Scalar.addi c0_i32_3300 v3798
  v3799.toNat
def k0_dev93 (d0 : Dev nD) : Nat :=
  let c0_i32_3317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3303 : BitVec 32 := 3#32
  let v3806 : BitVec 32 := Scalar.addi v2 c3_i32_3303
  let c16_i32_3304 : BitVec 32 := 16#32
  let c0_i32_3305 : BitVec 32 := 0#32
  let v3807 : BitVec 1 := Scalar.cmpi .eq c16_i32_3304 c0_i32_3305
  let c1_i32_3306 : BitVec 32 := 1#32
  let v3808 : BitVec 32 := Scalar.select v3807 c1_i32_3306 c16_i32_3304
  let v3809 : BitVec 32 := Scalar.remsi v3806 v3808
  let c0_i32_3308 : BitVec 32 := 0#32
  let v3811 : BitVec 1 := Scalar.cmpi .slt v3809 c0_i32_3308
  let c0_i32_3309 : BitVec 32 := 0#32
  let v3812 : BitVec 1 := Scalar.cmpi .slt v3808 c0_i32_3309
  let v3813 : BitVec 1 := Scalar.xori v3811 v3812
  let c0_i32_3307 : BitVec 32 := 0#32
  let v3810 : BitVec 1 := Scalar.cmpi .ne v3809 c0_i32_3307
  let v3814 : BitVec 1 := Scalar.andi v3813 v3810
  let v3815 : BitVec 32 := Scalar.addi v3809 v3808
  let v3816 : BitVec 32 := Scalar.select v3814 v3815 v3809
  let c1_i32_3316 : BitVec 32 := 1#32
  let v3819 : BitVec 32 := Scalar.muli v3816 c1_i32_3316
  let v3820 : BitVec 32 := Scalar.addi c0_i32_3317 v3819
  v3820.toNat
def k0_dev94 (d0 : Dev nD) : Nat :=
  let c0_i32_3334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3320 : BitVec 32 := 4#32
  let v3827 : BitVec 32 := Scalar.addi v2 c4_i32_3320
  let c16_i32_3321 : BitVec 32 := 16#32
  let c0_i32_3322 : BitVec 32 := 0#32
  let v3828 : BitVec 1 := Scalar.cmpi .eq c16_i32_3321 c0_i32_3322
  let c1_i32_3323 : BitVec 32 := 1#32
  let v3829 : BitVec 32 := Scalar.select v3828 c1_i32_3323 c16_i32_3321
  let v3830 : BitVec 32 := Scalar.remsi v3827 v3829
  let c0_i32_3325 : BitVec 32 := 0#32
  let v3832 : BitVec 1 := Scalar.cmpi .slt v3830 c0_i32_3325
  let c0_i32_3326 : BitVec 32 := 0#32
  let v3833 : BitVec 1 := Scalar.cmpi .slt v3829 c0_i32_3326
  let v3834 : BitVec 1 := Scalar.xori v3832 v3833
  let c0_i32_3324 : BitVec 32 := 0#32
  let v3831 : BitVec 1 := Scalar.cmpi .ne v3830 c0_i32_3324
  let v3835 : BitVec 1 := Scalar.andi v3834 v3831
  let v3836 : BitVec 32 := Scalar.addi v3830 v3829
  let v3837 : BitVec 32 := Scalar.select v3835 v3836 v3830
  let c1_i32_3333 : BitVec 32 := 1#32
  let v3840 : BitVec 32 := Scalar.muli v3837 c1_i32_3333
  let v3841 : BitVec 32 := Scalar.addi c0_i32_3334 v3840
  v3841.toNat
def k0_dev95 (d0 : Dev nD) : Nat :=
  let c0_i32_3351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3337 : BitVec 32 := 5#32
  let v3848 : BitVec 32 := Scalar.addi v2 c5_i32_3337
  let c16_i32_3338 : BitVec 32 := 16#32
  let c0_i32_3339 : BitVec 32 := 0#32
  let v3849 : BitVec 1 := Scalar.cmpi .eq c16_i32_3338 c0_i32_3339
  let c1_i32_3340 : BitVec 32 := 1#32
  let v3850 : BitVec 32 := Scalar.select v3849 c1_i32_3340 c16_i32_3338
  let v3851 : BitVec 32 := Scalar.remsi v3848 v3850
  let c0_i32_3342 : BitVec 32 := 0#32
  let v3853 : BitVec 1 := Scalar.cmpi .slt v3851 c0_i32_3342
  let c0_i32_3343 : BitVec 32 := 0#32
  let v3854 : BitVec 1 := Scalar.cmpi .slt v3850 c0_i32_3343
  let v3855 : BitVec 1 := Scalar.xori v3853 v3854
  let c0_i32_3341 : BitVec 32 := 0#32
  let v3852 : BitVec 1 := Scalar.cmpi .ne v3851 c0_i32_3341
  let v3856 : BitVec 1 := Scalar.andi v3855 v3852
  let v3857 : BitVec 32 := Scalar.addi v3851 v3850
  let v3858 : BitVec 32 := Scalar.select v3856 v3857 v3851
  let c1_i32_3350 : BitVec 32 := 1#32
  let v3861 : BitVec 32 := Scalar.muli v3858 c1_i32_3350
  let v3862 : BitVec 32 := Scalar.addi c0_i32_3351 v3861
  v3862.toNat
def k0_dev96 (d0 : Dev nD) : Nat :=
  let c0_i32_3368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3354 : BitVec 32 := 6#32
  let v3869 : BitVec 32 := Scalar.addi v2 c6_i32_3354
  let c16_i32_3355 : BitVec 32 := 16#32
  let c0_i32_3356 : BitVec 32 := 0#32
  let v3870 : BitVec 1 := Scalar.cmpi .eq c16_i32_3355 c0_i32_3356
  let c1_i32_3357 : BitVec 32 := 1#32
  let v3871 : BitVec 32 := Scalar.select v3870 c1_i32_3357 c16_i32_3355
  let v3872 : BitVec 32 := Scalar.remsi v3869 v3871
  let c0_i32_3359 : BitVec 32 := 0#32
  let v3874 : BitVec 1 := Scalar.cmpi .slt v3872 c0_i32_3359
  let c0_i32_3360 : BitVec 32 := 0#32
  let v3875 : BitVec 1 := Scalar.cmpi .slt v3871 c0_i32_3360
  let v3876 : BitVec 1 := Scalar.xori v3874 v3875
  let c0_i32_3358 : BitVec 32 := 0#32
  let v3873 : BitVec 1 := Scalar.cmpi .ne v3872 c0_i32_3358
  let v3877 : BitVec 1 := Scalar.andi v3876 v3873
  let v3878 : BitVec 32 := Scalar.addi v3872 v3871
  let v3879 : BitVec 32 := Scalar.select v3877 v3878 v3872
  let c1_i32_3367 : BitVec 32 := 1#32
  let v3882 : BitVec 32 := Scalar.muli v3879 c1_i32_3367
  let v3883 : BitVec 32 := Scalar.addi c0_i32_3368 v3882
  v3883.toNat
def k0_dev97 (d0 : Dev nD) : Nat :=
  let c0_i32_3385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3371 : BitVec 32 := 7#32
  let v3890 : BitVec 32 := Scalar.addi v2 c7_i32_3371
  let c16_i32_3372 : BitVec 32 := 16#32
  let c0_i32_3373 : BitVec 32 := 0#32
  let v3891 : BitVec 1 := Scalar.cmpi .eq c16_i32_3372 c0_i32_3373
  let c1_i32_3374 : BitVec 32 := 1#32
  let v3892 : BitVec 32 := Scalar.select v3891 c1_i32_3374 c16_i32_3372
  let v3893 : BitVec 32 := Scalar.remsi v3890 v3892
  let c0_i32_3376 : BitVec 32 := 0#32
  let v3895 : BitVec 1 := Scalar.cmpi .slt v3893 c0_i32_3376
  let c0_i32_3377 : BitVec 32 := 0#32
  let v3896 : BitVec 1 := Scalar.cmpi .slt v3892 c0_i32_3377
  let v3897 : BitVec 1 := Scalar.xori v3895 v3896
  let c0_i32_3375 : BitVec 32 := 0#32
  let v3894 : BitVec 1 := Scalar.cmpi .ne v3893 c0_i32_3375
  let v3898 : BitVec 1 := Scalar.andi v3897 v3894
  let v3899 : BitVec 32 := Scalar.addi v3893 v3892
  let v3900 : BitVec 32 := Scalar.select v3898 v3899 v3893
  let c1_i32_3384 : BitVec 32 := 1#32
  let v3903 : BitVec 32 := Scalar.muli v3900 c1_i32_3384
  let v3904 : BitVec 32 := Scalar.addi c0_i32_3385 v3903
  v3904.toNat
def k0_dev98 (d0 : Dev nD) : Nat :=
  let c0_i32_3402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3388 : BitVec 32 := 8#32
  let v3911 : BitVec 32 := Scalar.addi v2 c8_i32_3388
  let c16_i32_3389 : BitVec 32 := 16#32
  let c0_i32_3390 : BitVec 32 := 0#32
  let v3912 : BitVec 1 := Scalar.cmpi .eq c16_i32_3389 c0_i32_3390
  let c1_i32_3391 : BitVec 32 := 1#32
  let v3913 : BitVec 32 := Scalar.select v3912 c1_i32_3391 c16_i32_3389
  let v3914 : BitVec 32 := Scalar.remsi v3911 v3913
  let c0_i32_3393 : BitVec 32 := 0#32
  let v3916 : BitVec 1 := Scalar.cmpi .slt v3914 c0_i32_3393
  let c0_i32_3394 : BitVec 32 := 0#32
  let v3917 : BitVec 1 := Scalar.cmpi .slt v3913 c0_i32_3394
  let v3918 : BitVec 1 := Scalar.xori v3916 v3917
  let c0_i32_3392 : BitVec 32 := 0#32
  let v3915 : BitVec 1 := Scalar.cmpi .ne v3914 c0_i32_3392
  let v3919 : BitVec 1 := Scalar.andi v3918 v3915
  let v3920 : BitVec 32 := Scalar.addi v3914 v3913
  let v3921 : BitVec 32 := Scalar.select v3919 v3920 v3914
  let c1_i32_3401 : BitVec 32 := 1#32
  let v3924 : BitVec 32 := Scalar.muli v3921 c1_i32_3401
  let v3925 : BitVec 32 := Scalar.addi c0_i32_3402 v3924
  v3925.toNat
def k0_dev99 (d0 : Dev nD) : Nat :=
  let c0_i32_3419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3405 : BitVec 32 := 9#32
  let v3932 : BitVec 32 := Scalar.addi v2 c9_i32_3405
  let c16_i32_3406 : BitVec 32 := 16#32
  let c0_i32_3407 : BitVec 32 := 0#32
  let v3933 : BitVec 1 := Scalar.cmpi .eq c16_i32_3406 c0_i32_3407
  let c1_i32_3408 : BitVec 32 := 1#32
  let v3934 : BitVec 32 := Scalar.select v3933 c1_i32_3408 c16_i32_3406
  let v3935 : BitVec 32 := Scalar.remsi v3932 v3934
  let c0_i32_3410 : BitVec 32 := 0#32
  let v3937 : BitVec 1 := Scalar.cmpi .slt v3935 c0_i32_3410
  let c0_i32_3411 : BitVec 32 := 0#32
  let v3938 : BitVec 1 := Scalar.cmpi .slt v3934 c0_i32_3411
  let v3939 : BitVec 1 := Scalar.xori v3937 v3938
  let c0_i32_3409 : BitVec 32 := 0#32
  let v3936 : BitVec 1 := Scalar.cmpi .ne v3935 c0_i32_3409
  let v3940 : BitVec 1 := Scalar.andi v3939 v3936
  let v3941 : BitVec 32 := Scalar.addi v3935 v3934
  let v3942 : BitVec 32 := Scalar.select v3940 v3941 v3935
  let c1_i32_3418 : BitVec 32 := 1#32
  let v3945 : BitVec 32 := Scalar.muli v3942 c1_i32_3418
  let v3946 : BitVec 32 := Scalar.addi c0_i32_3419 v3945
  v3946.toNat
def k0_dev100 (d0 : Dev nD) : Nat :=
  let c0_i32_3436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3422 : BitVec 32 := 10#32
  let v3953 : BitVec 32 := Scalar.addi v2 c10_i32_3422
  let c16_i32_3423 : BitVec 32 := 16#32
  let c0_i32_3424 : BitVec 32 := 0#32
  let v3954 : BitVec 1 := Scalar.cmpi .eq c16_i32_3423 c0_i32_3424
  let c1_i32_3425 : BitVec 32 := 1#32
  let v3955 : BitVec 32 := Scalar.select v3954 c1_i32_3425 c16_i32_3423
  let v3956 : BitVec 32 := Scalar.remsi v3953 v3955
  let c0_i32_3427 : BitVec 32 := 0#32
  let v3958 : BitVec 1 := Scalar.cmpi .slt v3956 c0_i32_3427
  let c0_i32_3428 : BitVec 32 := 0#32
  let v3959 : BitVec 1 := Scalar.cmpi .slt v3955 c0_i32_3428
  let v3960 : BitVec 1 := Scalar.xori v3958 v3959
  let c0_i32_3426 : BitVec 32 := 0#32
  let v3957 : BitVec 1 := Scalar.cmpi .ne v3956 c0_i32_3426
  let v3961 : BitVec 1 := Scalar.andi v3960 v3957
  let v3962 : BitVec 32 := Scalar.addi v3956 v3955
  let v3963 : BitVec 32 := Scalar.select v3961 v3962 v3956
  let c1_i32_3435 : BitVec 32 := 1#32
  let v3966 : BitVec 32 := Scalar.muli v3963 c1_i32_3435
  let v3967 : BitVec 32 := Scalar.addi c0_i32_3436 v3966
  v3967.toNat
def k0_dev101 (d0 : Dev nD) : Nat :=
  let c0_i32_3453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3439 : BitVec 32 := 11#32
  let v3974 : BitVec 32 := Scalar.addi v2 c11_i32_3439
  let c16_i32_3440 : BitVec 32 := 16#32
  let c0_i32_3441 : BitVec 32 := 0#32
  let v3975 : BitVec 1 := Scalar.cmpi .eq c16_i32_3440 c0_i32_3441
  let c1_i32_3442 : BitVec 32 := 1#32
  let v3976 : BitVec 32 := Scalar.select v3975 c1_i32_3442 c16_i32_3440
  let v3977 : BitVec 32 := Scalar.remsi v3974 v3976
  let c0_i32_3444 : BitVec 32 := 0#32
  let v3979 : BitVec 1 := Scalar.cmpi .slt v3977 c0_i32_3444
  let c0_i32_3445 : BitVec 32 := 0#32
  let v3980 : BitVec 1 := Scalar.cmpi .slt v3976 c0_i32_3445
  let v3981 : BitVec 1 := Scalar.xori v3979 v3980
  let c0_i32_3443 : BitVec 32 := 0#32
  let v3978 : BitVec 1 := Scalar.cmpi .ne v3977 c0_i32_3443
  let v3982 : BitVec 1 := Scalar.andi v3981 v3978
  let v3983 : BitVec 32 := Scalar.addi v3977 v3976
  let v3984 : BitVec 32 := Scalar.select v3982 v3983 v3977
  let c1_i32_3452 : BitVec 32 := 1#32
  let v3987 : BitVec 32 := Scalar.muli v3984 c1_i32_3452
  let v3988 : BitVec 32 := Scalar.addi c0_i32_3453 v3987
  v3988.toNat
def k0_dev102 (d0 : Dev nD) : Nat :=
  let c0_i32_3470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3456 : BitVec 32 := 12#32
  let v3995 : BitVec 32 := Scalar.addi v2 c12_i32_3456
  let c16_i32_3457 : BitVec 32 := 16#32
  let c0_i32_3458 : BitVec 32 := 0#32
  let v3996 : BitVec 1 := Scalar.cmpi .eq c16_i32_3457 c0_i32_3458
  let c1_i32_3459 : BitVec 32 := 1#32
  let v3997 : BitVec 32 := Scalar.select v3996 c1_i32_3459 c16_i32_3457
  let v3998 : BitVec 32 := Scalar.remsi v3995 v3997
  let c0_i32_3461 : BitVec 32 := 0#32
  let v4000 : BitVec 1 := Scalar.cmpi .slt v3998 c0_i32_3461
  let c0_i32_3462 : BitVec 32 := 0#32
  let v4001 : BitVec 1 := Scalar.cmpi .slt v3997 c0_i32_3462
  let v4002 : BitVec 1 := Scalar.xori v4000 v4001
  let c0_i32_3460 : BitVec 32 := 0#32
  let v3999 : BitVec 1 := Scalar.cmpi .ne v3998 c0_i32_3460
  let v4003 : BitVec 1 := Scalar.andi v4002 v3999
  let v4004 : BitVec 32 := Scalar.addi v3998 v3997
  let v4005 : BitVec 32 := Scalar.select v4003 v4004 v3998
  let c1_i32_3469 : BitVec 32 := 1#32
  let v4008 : BitVec 32 := Scalar.muli v4005 c1_i32_3469
  let v4009 : BitVec 32 := Scalar.addi c0_i32_3470 v4008
  v4009.toNat
def k0_dev103 (d0 : Dev nD) : Nat :=
  let c0_i32_3487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3473 : BitVec 32 := 13#32
  let v4016 : BitVec 32 := Scalar.addi v2 c13_i32_3473
  let c16_i32_3474 : BitVec 32 := 16#32
  let c0_i32_3475 : BitVec 32 := 0#32
  let v4017 : BitVec 1 := Scalar.cmpi .eq c16_i32_3474 c0_i32_3475
  let c1_i32_3476 : BitVec 32 := 1#32
  let v4018 : BitVec 32 := Scalar.select v4017 c1_i32_3476 c16_i32_3474
  let v4019 : BitVec 32 := Scalar.remsi v4016 v4018
  let c0_i32_3478 : BitVec 32 := 0#32
  let v4021 : BitVec 1 := Scalar.cmpi .slt v4019 c0_i32_3478
  let c0_i32_3479 : BitVec 32 := 0#32
  let v4022 : BitVec 1 := Scalar.cmpi .slt v4018 c0_i32_3479
  let v4023 : BitVec 1 := Scalar.xori v4021 v4022
  let c0_i32_3477 : BitVec 32 := 0#32
  let v4020 : BitVec 1 := Scalar.cmpi .ne v4019 c0_i32_3477
  let v4024 : BitVec 1 := Scalar.andi v4023 v4020
  let v4025 : BitVec 32 := Scalar.addi v4019 v4018
  let v4026 : BitVec 32 := Scalar.select v4024 v4025 v4019
  let c1_i32_3486 : BitVec 32 := 1#32
  let v4029 : BitVec 32 := Scalar.muli v4026 c1_i32_3486
  let v4030 : BitVec 32 := Scalar.addi c0_i32_3487 v4029
  v4030.toNat
def k0_dev104 (d0 : Dev nD) : Nat :=
  let c0_i32_3504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3490 : BitVec 32 := 14#32
  let v4037 : BitVec 32 := Scalar.addi v2 c14_i32_3490
  let c16_i32_3491 : BitVec 32 := 16#32
  let c0_i32_3492 : BitVec 32 := 0#32
  let v4038 : BitVec 1 := Scalar.cmpi .eq c16_i32_3491 c0_i32_3492
  let c1_i32_3493 : BitVec 32 := 1#32
  let v4039 : BitVec 32 := Scalar.select v4038 c1_i32_3493 c16_i32_3491
  let v4040 : BitVec 32 := Scalar.remsi v4037 v4039
  let c0_i32_3495 : BitVec 32 := 0#32
  let v4042 : BitVec 1 := Scalar.cmpi .slt v4040 c0_i32_3495
  let c0_i32_3496 : BitVec 32 := 0#32
  let v4043 : BitVec 1 := Scalar.cmpi .slt v4039 c0_i32_3496
  let v4044 : BitVec 1 := Scalar.xori v4042 v4043
  let c0_i32_3494 : BitVec 32 := 0#32
  let v4041 : BitVec 1 := Scalar.cmpi .ne v4040 c0_i32_3494
  let v4045 : BitVec 1 := Scalar.andi v4044 v4041
  let v4046 : BitVec 32 := Scalar.addi v4040 v4039
  let v4047 : BitVec 32 := Scalar.select v4045 v4046 v4040
  let c1_i32_3503 : BitVec 32 := 1#32
  let v4050 : BitVec 32 := Scalar.muli v4047 c1_i32_3503
  let v4051 : BitVec 32 := Scalar.addi c0_i32_3504 v4050
  v4051.toNat
def k0_dev105 (d0 : Dev nD) : Nat :=
  let c0_i32_3521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3507 : BitVec 32 := 15#32
  let v4058 : BitVec 32 := Scalar.addi v2 c15_i32_3507
  let c16_i32_3508 : BitVec 32 := 16#32
  let c0_i32_3509 : BitVec 32 := 0#32
  let v4059 : BitVec 1 := Scalar.cmpi .eq c16_i32_3508 c0_i32_3509
  let c1_i32_3510 : BitVec 32 := 1#32
  let v4060 : BitVec 32 := Scalar.select v4059 c1_i32_3510 c16_i32_3508
  let v4061 : BitVec 32 := Scalar.remsi v4058 v4060
  let c0_i32_3512 : BitVec 32 := 0#32
  let v4063 : BitVec 1 := Scalar.cmpi .slt v4061 c0_i32_3512
  let c0_i32_3513 : BitVec 32 := 0#32
  let v4064 : BitVec 1 := Scalar.cmpi .slt v4060 c0_i32_3513
  let v4065 : BitVec 1 := Scalar.xori v4063 v4064
  let c0_i32_3511 : BitVec 32 := 0#32
  let v4062 : BitVec 1 := Scalar.cmpi .ne v4061 c0_i32_3511
  let v4066 : BitVec 1 := Scalar.andi v4065 v4062
  let v4067 : BitVec 32 := Scalar.addi v4061 v4060
  let v4068 : BitVec 32 := Scalar.select v4066 v4067 v4061
  let c1_i32_3520 : BitVec 32 := 1#32
  let v4071 : BitVec 32 := Scalar.muli v4068 c1_i32_3520
  let v4072 : BitVec 32 := Scalar.addi c0_i32_3521 v4071
  v4072.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x8192 : Shape := ⟨2, ![256, 8192]⟩
abbrev S8192x256 : Shape := ⟨2, ![8192, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x8192, .f32⟩
  | .hbm, ⟨2, _⟩ => ⟨S8192x256, .f32⟩
  | .hbm, ⟨3, _⟩ => ⟨S256x8192, .f32⟩
  | .hbm, ⟨4, _⟩ => ⟨S8192x256, .f32⟩
  | .hbm, ⟨5, _⟩ => ⟨S256x8192, .f32⟩
  | .hbm, ⟨6, _⟩ => ⟨S8192x256, .f32⟩
  | .hbm, ⟨7, _⟩ => ⟨S256x8192, .f32⟩
  | .hbm, ⟨8, _⟩ => ⟨S_, .f32⟩
  | .hbm, ⟨9, _⟩ => ⟨S256x8192, .f32⟩
  | .hbm, ⟨10, _⟩ => ⟨S256x8192, .f32⟩
  | .hbm, ⟨11, _⟩ => ⟨S256x256, .f32⟩
  | .hbm, ⟨12, _⟩ => ⟨S256x8192, .f32⟩
  | .hbm, ⟨13, _⟩ => ⟨S_, .f32⟩
  | .hbm, ⟨14, _⟩ => ⟨S256x8192, .f32⟩
  | .hbm, ⟨15, _⟩ => ⟨S256x8192, .f32⟩
  | .hbm, ⟨16, _⟩ => ⟨S256x256, .f32⟩
  | .hbm, ⟨17, _⟩ => ⟨S256x8192, .f32⟩
  | .hbm, ⟨18, _⟩ => ⟨S_, .f32⟩
  | .hbm, ⟨19, _⟩ => ⟨S256x8192, .f32⟩
  | .hbm, ⟨20, _⟩ => ⟨S256x8192, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Loops.lean ====
/-
# The kernel's body as loops over the fifteen peers

The kernel's text spells each of its fifteen-fold repetitions out. Here the same body is written with loops over
`Fin 15` (`body`), layer by layer, and `body_eq` says that the printed body is that looped program: both unfold to
one sequence of memory operations.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mlp

open Cert.KernelIdeal Cert.KernelIdeal.Gen
open Idealize.ShloMosaic Idealize.SL.Sem

variable {F : FTy → Type} [FloatOps F]

/-! ## Loops -/

/-- A kernel program. -/
abbrev KProg (F : FTy → Type) [FloatOps F] (α : Type) := Prog (TpuEff nD τ sig (Elt F) Λ₀ .tc) α

/-- The fifteen steps in program order. -/
abbrev steps : List (Fin 15) := [0, 1, 2, 3, 4, 5, 6, 7, 8, 9, 10, 11, 12, 13, 14]

/-- One program per step, in order. -/
def seqs (f : Fin 15 → KProg F PUnit) : List (Fin 15) → KProg F PUnit
  | [] => .ret ⟨⟩
  | k :: l => (f k).bind fun _ => seqs f l

/-- One program per step, each handing its value to the next. -/
def accs {α : Type} (f : Fin 15 → α → KProg F α) : List (Fin 15) → α → KProg F α
  | [], a => .ret a
  | k :: l, a => (f k a).bind fun b => accs f l b

/-! ## Addresses -/

/-- The word of step `r`: the distance to its peer. -/
abbrev wd (r : Fin 15) : BitVec 32 := BitVec.ofNat 32 (1 + r.val)

/-- A word modulo sixteen, rounding towards minus infinity as the kernel computes it. -/
def modW (a : BitVec 32) : BitVec 32 :=
  let n := Scalar.select (Scalar.cmpi .eq 16#32 0#32) 1#32 16#32
  let q := Scalar.remsi a n
  Scalar.select (Scalar.andi (Scalar.xori (Scalar.cmpi .slt q 0#32) (Scalar.cmpi .slt n 0#32)) (Scalar.cmpi .ne q 0#32))
    (Scalar.addi q n) q

/-- The number of the device `w` after `d`, as the kernel computes it. -/
def devW (d : Dev nD) (w : BitVec 32) : Nat :=
  (Scalar.addi 0#32 (Scalar.muli (modW (Scalar.addi (Scalar.remsi (Scalar.divsi (Dev.word d) 1#32) 16#32) w)) 1#32)).toNat

theorem devW_eq : ∀ (d : Dev nD) (r : Fin 15), devW d (wd r) = (d.val + r.val + 1) % 16 := by decide +kernel

theorem devW_lt (d : Dev nD) (r : Fin 15) : devW d (wd r) < nD := by
  rw [devW_eq]; exact Nat.mod_lt _ (by decide)

/-- The device `r + 1` after `d`. -/
abbrev devTo (d : Dev nD) (r : Fin 15) : Dev nD := ⟨devW d (wd r), devW_lt d r⟩

theorem inbSem (p : Fin 2) (r : Fin 15) : ∀ a, (![p.val, r.val] : Fin 2 → Nat) a + S1x1.size a ≤ S2x15.size a := by
  revert p r; decide +kernel

/-- Semaphore `(p, r)` of a block of thirty. -/
abbrev semAt (a : DmaSems sig S2x15) (p : Fin 2) (r : Fin 15) : DmaSem sig :=
  ((a.slice (Rect.unit (s := S2x15) ![p.val, r.val] S1x1.size (inbSem p r))).squeeze S_ squeezes_S1x1_S_).sem

/-- The barrier's semaphore. -/
abbrev barSem : Sem sig := (SemArray.scalar (sig.barrier 0 rfl) : Sems sig S_).sem

section Body

variable (arg0 : Memref sig .tc .vmem S256x256 .f32)
  (arg1 : Memref sig .tc .vmem S256x512 .f32) (arg2 : Memref sig .tc .vmem S512x256 .f32)
  (arg3 : Memref sig .tc .vmem S256x512 .f32) (arg4 : Memref sig .tc .vmem S512x256 .f32)
  (arg5 : Memref sig .tc .vmem S256x512 .f32) (arg6 : Memref sig .tc .vmem S512x256 .f32)
  (arg7 : Memref sig .tc .vmem S256x256 .f32)
  (arg8 : Memref sig .tc .vmem S256x256 .bf16) (harg8 : arg8.IsWhole)
  (arg9 : Memref sig .tc .vmem S16x16x256 .bf16) (harg9 : arg9.IsWhole)
  (arg10 : Memref sig .tc .vmem S256x256 .bf16) (harg10 : arg10.IsWhole)
  (arg11 : DmaSems sig S2x15) (arg12 : DmaSems sig S2x15) (d : Dev nD)

/-- The sixteen rows a device sends its peer of step `r`. -/
abbrev rowsTo (m : Memref sig .tc .vmem S256x256 .bf16) (r : Fin 15) : Memref sig .tc .vmem S16x256 .bf16 :=
  m.slice (Rect.unit (s := S256x256) (k0_off2 d (wd r)) S16x256.size (k0_off2_inb d r)) (fun _ => rfl)
/-- The sixteen rows a device sums. -/
abbrev rowsOwn (m : Memref sig .tc .vmem S256x256 .bf16) : Memref sig .tc .vmem S16x256 .bf16 :=
  m.slice (Rect.unit (s := S256x256) (k0_off5 d) S16x256.size (k0_off5_inb d)) (fun _ => rfl)
/-- The sixteen rows that come from the peer of step `r`. -/
abbrev rowsFrom (m : Memref sig .tc .vmem S256x256 .bf16) (r : Fin 15) : Memref sig .tc .vmem S16x256 .bf16 :=
  m.slice (Rect.unit (s := S256x256) (k0_off7 d (wd r)) S16x256.size (k0_off7_inb d r)) (fun _ => rfl)
/-- The slot a device writes on its peers. -/
abbrev slotOwn (m : Memref sig .tc .vmem S16x16x256 .bf16) : Memref sig .tc .vmem S16x256 .bf16 :=
  (m.slice (Rect.unit (s := S16x16x256) (k0_off1 d) S1x16x256.size (k0_off1_inb d)) (fun _ => rfl)).squeeze S16x256 squeezes_S1x16x256_S16x256
/-- The slot the peer of step `r` writes. -/
abbrev slotFrom (m : Memref sig .tc .vmem S16x16x256 .bf16) (r : Fin 15) : Memref sig .tc .vmem S16x256 .bf16 :=
  (m.slice (Rect.unit (s := S16x16x256) (k0_off4 d (wd r)) S1x16x256.size (k0_off4_inb d r)) (fun _ => rfl)).squeeze S16x256 squeezes_S1x16x256_S16x256

/-! ## The steps -/

/-- Tell the peer of step `r` that this device has begun. -/
def hello (r : Fin 15) : KProg F PUnit := semSignalWord (devTo d r) barSem 1#32

/-- Send the peer of step `r` its rows of this device's product. -/
def sendPart (r : Fin 15) : KProg F PUnit :=
  Prog.lift (.enqueueDma (rowsTo d arg8 r) (.remote (Dev.tc (devTo d r)) (slotOwn d arg9) (.dma (semAt arg11 0 r)))
    (.dma (semAt arg12 0 r)) (harg8.wordExact_slice rfl _ (k0_off2_wordsbf16 d r))
    ((harg9.wordExact_slice rfl _ (k0_off1_wordsbf16 d)).reshape _ _) ⟨⟨rfl, Or.inl rfl⟩, trivial⟩)

/-- One more product into the sum. -/
def addPart (a : FVec F S16x256 .f32) (v : Vec F S1x16x256 .bf16) : FVec F S16x256 .f32 :=
  addf a (extf .f32 (shapeCast S16x256 v shapeCasts_S1x16x256_S16x256) bitsLt_bf16_f32)

/-- Wait for the product from the peer of step `r`. -/
def waitPart (r : Fin 15) : KProg F PUnit :=
  Prog.lift (.waitDma2 (semAt arg12 0 r) (rowsOwn d arg8) (slotFrom d arg9 r)
    (harg8.wordExact_slice rfl _ (k0_off5_wordsbf16 d)) ((harg9.wordExact_slice rfl _ (k0_off4_wordsbf16 d r)).reshape _ _))

/-- Wait for the product from the peer of step `r` and add it. -/
def recvPart (r : Fin 15) (a : FVec F S16x256 .f32) : KProg F (FVec F S16x256 .f32) :=
  (waitPart arg8 harg8 arg9 harg9 arg12 d r).bind fun _ =>
    .op (.load arg9 (Rect.unit (s := S16x16x256) (k0_off6 d (wd r)) S1x16x256.size (k0_off6_inb d r)).toLoadRect
      (View.loadsAt_vmem h_S1x16x256)) fun v => .ret (addPart a v)

/-- Send the peer of step `r` the summed rows. -/
def sendSum (r : Fin 15) : KProg F PUnit :=
  Prog.lift (.enqueueDma (rowsOwn d arg10) (.remote (Dev.tc (devTo d r)) (rowsOwn d arg10) (.dma (semAt arg11 1 r)))
    (.dma (semAt arg12 1 r)) (harg10.wordExact_slice rfl _ (k0_off5_wordsbf16 d))
    (harg10.wordExact_slice rfl _ (k0_off5_wordsbf16 d)) ⟨⟨rfl, Or.inl rfl⟩, trivial⟩)

/-- Wait for the summed rows of the peer of step `r`. -/
def waitSum (r : Fin 15) : KProg F PUnit :=
  Prog.lift (.waitDma2 (semAt arg12 1 r) (rowsFrom d arg10 r) (rowsFrom d arg10 r)
    (harg10.wordExact_slice rfl _ (k0_off7_wordsbf16 d r)) (harg10.wordExact_slice rfl _ (k0_off7_wordsbf16 d r)))

/-- Wait until the product sent in step `r` has left. -/
def leftPart (r : Fin 15) : KProg F PUnit :=
  Prog.lift (.waitDma2 (semAt arg11 0 r) (slotOwn d arg9) (rowsTo d arg8 r)
    ((harg9.wordExact_slice rfl _ (k0_off1_wordsbf16 d)).reshape _ _) (harg8.wordExact_slice rfl _ (k0_off2_wordsbf16 d r)))

/-- Wait until the sum sent in step `r` has left. -/
def leftSum (r : Fin 15) : KProg F PUnit :=
  Prog.lift (.waitDma2 (semAt arg11 1 r) (rowsOwn d arg10) (rowsOwn d arg10)
    (harg10.wordExact_slice rfl _ (k0_off5_wordsbf16 d)) (harg10.wordExact_slice rfl _ (k0_off5_wordsbf16 d)))

/-- What a device stores as its sum. -/
def sumOut (a : FVec F S16x256 .f32) : FVec F S16x256 .bf16 :=
  shapeCast S16x256 (truncf .bf16 a bitsLt_bf16_f32) shapeCasts_S16x256_S16x256

/-- A layer's exchange: the products out, this device's rows summed, the sum out to all, the sums of all in. -/
def exchange : KProg F PUnit :=
  (seqs (sendPart arg8 harg8 arg9 harg9 arg11 arg12 d) steps).bind fun _ =>
  .op (.load arg8 (Rect.unit (s := S256x256) (k0_off3 d) S16x256.size (k0_off3_inb d)).toLoadRect (View.loadsAt_vmem h_S16x256)) fun v =>
  (accs (recvPart arg8 harg8 arg9 harg9 arg12 d) steps (extf .f32 v bitsLt_bf16_f32)).bind fun a =>
  .op (.load arg10 (Rect.unit (s := S256x256) (k0_off3 d) S16x256.size (k0_off3_inb d)).toLoadRect (View.loadsAt_vmem h_S16x256)) fun _ =>
  .op (.store arg10 (Rect.unit (s := S256x256) (k0_off3 d) S16x256.size (k0_off3_inb d)) (sumOut a) Finset.univ
    (View.stores_vmem h_S16x256 (harg10.storeExact_slice rfl _ (k0_off3_packedbf16 d)) (fun _ => rfl)) (.inl rfl)) fun _ =>
  (seqs (sendSum arg10 harg10 arg11 arg12 d) steps).bind fun _ =>
  (seqs (waitSum arg10 harg10 arg12 d) steps).bind fun _ =>
  (seqs (leftPart arg8 harg8 arg9 harg9 arg11 d) steps).bind fun _ =>
  seqs (leftSum arg10 harg10 arg11 d) steps

/-- A layer's product, stored. -/
def putPart (v : FVec F S256x256 .bf16) : KProg F PUnit :=
  .op (.load arg8 (Rect.unit (s := S256x256) ![0, 0] S256x256.size inb_S256x256_S256x256_0_0).toLoadRect (View.loadsAt_vmem h_S256x256)) fun _ =>
  Prog.lift (.store arg8 (Rect.unit (s := S256x256) ![0, 0] S256x256.size inb_S256x256_S256x256_0_0) v Finset.univ
    (View.stores_vmem h_S256x256 (harg8.storeExact_slice rfl _ packedbf16_S256x256_S256x256_0_0) (fun _ => rfl)) (.inl rfl))

/-- Read a layer's two weights. -/
def weights (wi : Memref sig .tc .vmem S256x512 .f32) (wo : Memref sig .tc .vmem S512x256 .f32)
    (k : Vec F S256x512 .f32 → Vec F S512x256 .f32 → KProg F PUnit) : KProg F PUnit :=
  .op (.load wi (Rect.unit (s := S256x512) ![0, 0] S256x512.size inb_S256x512_S256x512_0_0).toLoadRect (View.loadsAt_vmem h_S256x512)) fun vi =>
  .op (.load wo (Rect.unit (s := S512x256) ![0, 0] S512x256.size inb_S512x256_S512x256_0_0).toLoadRect (View.loadsAt_vmem h_S512x256)) fun vo =>
  k vi vo

/-- Read the gathered sums whole. -/
def gathered {α : Type} (k : Vec F S256x256 .bf16 → KProg F α) : KProg F α :=
  .op (.load arg10 (Rect.unit (s := S256x256) ![0, 0] S256x256.size inb_S256x256_S256x256_0_0).toLoadRect (View.loadsAt_vmem h_S256x256)) k

/-- The first layer's product, from the kernel's operand. -/
def first : KProg F PUnit :=
  .op (.load arg0 (Rect.unit (s := S256x256) ![0, 0] S256x256.size inb_S256x256_S256x256_0_0).toLoadRect (View.loadsAt_vmem h_S256x256)) fun x =>
  weights arg1 arg2 fun vi vo => putPart arg8 harg8 (k0_pay1 x vi vo)

/-- A later layer's product, from the gathered sums. -/
def later (wi : Memref sig .tc .vmem S256x512 .f32) (wo : Memref sig .tc .vmem S512x256 .f32) : KProg F PUnit :=
  gathered arg10 fun x => weights wi wo fun vi vo => putPart arg8 harg8 (k0_pay14 x vi vo)

/-- The result, from the gathered sums. -/
def result : KProg F PUnit :=
  gathered arg10 fun x =>
  .op (.load arg7 (Rect.unit (s := S256x256) ![0, 0] S256x256.size inb_S256x256_S256x256_0_0).toLoadRect (View.loadsAt_vmem h_S256x256)) fun _ =>
  Prog.lift (.store arg7 (Rect.unit (s := S256x256) ![0, 0] S256x256.size inb_S256x256_S256x256_0_0) (k0_pay42 x) Finset.univ
    (View.stores_vmem_bits_univ h_S256x256 rfl) (.inl rfl))

/-- The whole body. -/
def body : KProg F PUnit :=
  .op .deviceId fun d =>
  (seqs (hello d) steps).bind fun _ =>
  (first arg0 arg1 arg2 arg8 harg8).bind fun _ =>
  (semWaitWord barSem 15#32).bind fun _ =>
  (exchange arg8 harg8 arg9 harg9 arg10 harg10 arg11 arg12 d).bind fun _ =>
  (later arg8 harg8 arg10 arg3 arg4).bind fun _ =>
  (exchange arg8 harg8 arg9 harg9 arg10 harg10 arg11 arg12 d).bind fun _ =>
  (later arg8 harg8 arg10 arg5 arg6).bind fun _ =>
  (exchange arg8 harg8 arg9 harg9 arg10 harg10 arg11 arg12 d).bind fun _ =>
  result arg7 arg10

end Body

set_option maxRecDepth 65536 in
theorem body_eq (arg0 harg0 arg1 harg1 arg2 harg2 arg3 harg3 arg4 harg4 arg5 harg5 arg6 harg6 arg7 harg7 arg8 harg8 arg9 harg9 arg10 harg10 arg11 arg12) :
    cc0_body (F := F) arg0 harg0 arg1 harg1 arg2 harg2 arg3 harg3 arg4 harg4 arg5 harg5 arg6 harg6 arg7 harg7 arg8 harg8 arg9 harg9 arg10 harg10 arg11 arg12
      = body arg0 arg1 arg2 arg3 arg4 arg5 arg6 arg7 arg8 harg8 arg9 harg9 arg10 harg10 arg11 arg12 := by
  sl_kernel_rfl

end Cert.Mlp
-- ==== Proof.Vocab.lean ====
/-
# The sixteen devices, their chunks and what the buffers hold

Peers on the ring of sixteen; the sixteen rows of a chunk and the slot of a device as sets of elements; what each
buffer holds in each layer, as functions of the launch memory.
-/
module

public import proofs.«01_k».proof.Proof.Loops
public import Idealize.ShloMosaic.Lib.ValueLayout

@[expose] public section

noncomputable section

namespace Cert.Mlp

open Cert.KernelIdeal Cert.KernelIdeal.Gen
open Idealize.ShloMosaic
open Idealize.ShloMosaic.TcCoe
open Idealize.ShloMosaic.ValueIdx
open Idealize.SL.Sem

variable {F : FTy → Type} [FloatOps F]

/-! ## Peers -/

set_option backward.proofsInPublic true in
/-- The device `r + 1` after `c`. -/
def up (c : Dev nD) (r : Fin 15) : Dev nD := ⟨(c.val + r.val + 1) % 16, Nat.mod_lt _ (by decide)⟩
set_option backward.proofsInPublic true in
/-- The device `r + 1` before `c`. -/
def dn (c : Dev nD) (r : Fin 15) : Dev nD := ⟨(c.val + 15 - r.val) % 16, Nat.mod_lt _ (by decide)⟩
/-- The step back. -/
def rev (r : Fin 15) : Fin 15 := ⟨14 - r.val, by omega⟩

theorem dn_up : ∀ (c : Dev nD) (r : Fin 15), dn (up c r) r = c := by decide +kernel
theorem up_dn : ∀ (c : Dev nD) (r : Fin 15), up (dn c r) r = c := by decide +kernel
theorem dn_eq : ∀ (c : Dev nD) (r : Fin 15), dn c r = up c (rev r) := by decide +kernel
theorem rev_rev : ∀ r : Fin 15, rev (rev r) = r := by decide +kernel
theorem up_ne : ∀ (c : Dev nD) (r : Fin 15), up c r ≠ c := by decide +kernel
theorem up_inj : ∀ (c : Dev nD) (r r' : Fin 15), up c r = up c r' → r = r' := by decide +kernel
theorem exists_up : ∀ c s : Dev nD, s ≠ c → ∃ r, up c r = s := by decide +kernel

theorem up_rev (c : Dev nD) (r : Fin 15) : up c (rev r) = dn c r := (dn_eq c r).symm
theorem dn_rev (c : Dev nD) (r : Fin 15) : dn c (rev r) = up c r := by rw [dn_eq, rev_rev]
theorem up_up_rev (c : Dev nD) (r : Fin 15) : up (up c r) (rev r) = c := by rw [up_rev, dn_up]
theorem up_up_rev' (c : Dev nD) (r : Fin 15) : up (up c (rev r)) r = c := by rw [up_rev, up_dn]

theorem devTo_eq (c : Dev nD) (r : Fin 15) : devTo c r = up c r := Fin.ext (devW_eq c r)

/-! ## Memrefs -/

abbrev xM : Memref sig .tc .vmem S256x256 .f32 := Memref.whole cc0_stg0_0
abbrev yM : Memref sig .tc .vmem S256x256 .f32 := Memref.whole cc0_stg7_0
abbrev pM : Memref sig .tc .vmem S256x256 .bf16 := Memref.whole cc0_scratch0
abbrev sM : Memref sig .tc .vmem S16x16x256 .bf16 := Memref.whole cc0_scratch1
abbrev gM : Memref sig .tc .vmem S256x256 .bf16 := Memref.whole cc0_scratch2

theorem off2_eq : ∀ (d : Dev nD) (r : Fin 15), k0_off2 d (wd r) = k0_off5 (up d r) := by decide +kernel
theorem off7_eq : ∀ (d : Dev nD) (r : Fin 15), k0_off7 d (wd r) = k0_off5 (dn d r) := by decide +kernel
theorem off3_eq : ∀ (d : Dev nD), k0_off3 d = k0_off5 d := by decide +kernel
theorem off4_eq : ∀ (d : Dev nD) (r : Fin 15), k0_off4 d (wd r) = k0_off1 (dn d r) := by decide +kernel
theorem off6_eq : ∀ (d : Dev nD) (r : Fin 15), k0_off6 d (wd r) = k0_off1 (dn d r) := by decide +kernel

theorem slice_off {s : Shape} {e : EltTy} (m : Memref sig .tc .vmem s e) {off off' size : Fin s.rank → Nat} (h : off = off')
    (i : ∀ a, off a + size a ≤ s.size a) (i' : ∀ a, off' a + size a ≤ s.size a) :
    m.slice (Rect.unit (s := s) off size i) (fun _ => rfl) = m.slice (Rect.unit (s := s) off' size i') (fun _ => rfl) := by
  subst h; rfl

theorem rowsTo_eq (d : Dev nD) (m : Memref sig .tc .vmem S256x256 .bf16) (r : Fin 15) : rowsTo d m r = rowsOwn (up d r) m :=
  slice_off m (off2_eq d r) _ _

/-! ## Chunks of rows, slots -/

/-- Row `a`, column `b` of chunk `s`. -/
abbrev rowAt (s : Dev nD) (j : S16x256.Idx) : S256x256.Idx :=
  (Rect.unit (s := S256x256) (k0_off5 s) S16x256.size (k0_off5_inb s)).emb j

/-- Row `a`, column `b` of slot `s`. -/
abbrev slotAt (s : Dev nD) (j : S1x16x256.Idx) : S16x16x256.Idx :=
  (Rect.unit (s := S16x16x256) (k0_off1 s) S1x16x256.size (k0_off1_inb s)).emb j

theorem rowAt_0 (s : Dev nD) (j : S16x256.Idx) : (rowAt s j 0).val = 16 * s.val + (j 0).val := by
  rw [rowAt, Rect.emb_apply]; simp [k0_off5_eq]
theorem rowAt_1 (s : Dev nD) (j : S16x256.Idx) : (rowAt s j 1).val = (j 1).val := by
  rw [rowAt, Rect.emb_apply]; simp [k0_off5_eq]
theorem slotAt_0 (s : Dev nD) (j : S1x16x256.Idx) : (slotAt s j 0).val = s.val := by
  rw [slotAt, Rect.emb_apply]
  have : (j 0).val = 0 := Nat.lt_one_iff.mp (j 0).isLt
  simp [k0_off1_eq, this]
theorem slotAt_1 (s : Dev nD) (j : S1x16x256.Idx) : (slotAt s j 1).val = (j 1).val := by
  rw [slotAt, Rect.emb_apply]; simp [k0_off1_eq]
theorem slotAt_2 (s : Dev nD) (j : S1x16x256.Idx) : (slotAt s j 2).val = (j 2).val := by
  rw [slotAt, Rect.emb_apply]; simp [k0_off1_eq]

/-- The elements of chunk `s`. -/
abbrev rowSet (s : Dev nD) : Finset S256x256.Idx := Finset.univ.filter fun i => (i 0).val / 16 = s.val
/-- The elements of slot `s`. -/
abbrev slotSet (s : Dev nD) : Finset S16x16x256.Idx := Finset.univ.filter fun i => (i 0).val = s.val

theorem rect_row (s : Dev nD) : (Rect.unit (s := S256x256) (k0_off5 s) S16x256.size (k0_off5_inb s)).set = rowSet s := by
  ext i
  rw [Rect.mem_set_unit, Finset.mem_filter, Fin.forall_fin_two, k0_off5_eq]
  have h1 : (i 1).val < 256 := (i 1).isLt
  simp only [Matrix.cons_val_zero, Matrix.cons_val_one, Finset.mem_univ, true_and]
  constructor
  · rintro ⟨⟨h, h'⟩, -⟩; show (i 0).val / 16 = s.val
    have : (i 0).val < 16 * s.val + 16 := h'
    omega
  · intro h; exact ⟨⟨by omega, show (i 0).val < 16 * s.val + 16 by omega⟩, by omega, show (i 1).val < 0 + 256 by omega⟩

theorem rect_slot (s : Dev nD) : (Rect.unit (s := S16x16x256) (k0_off1 s) S1x16x256.size (k0_off1_inb s)).set = slotSet s := by
  ext i
  rw [Rect.mem_set_unit, Finset.mem_filter, k0_off1_eq]
  have h1 : (i 1).val < 16 := (i 1).isLt
  have h2 : (i 2).val < 256 := (i 2).isLt
  constructor
  · intro h
    have h0 := h 0
    have a1 : s.val ≤ (i 0).val := h0.1
    have a2 : (i 0).val < s.val + 1 := h0.2
    exact ⟨Finset.mem_univ _, by omega⟩
  · rintro ⟨-, h⟩ a
    fin_cases a
    · exact ⟨show s.val ≤ (i 0).val by omega, show (i 0).val < s.val + 1 by omega⟩
    · exact ⟨Nat.zero_le _, show (i 1).val < 0 + 16 by omega⟩
    · exact ⟨Nat.zero_le _, show (i 2).val < 0 + 256 by omega⟩

theorem set_rowsOwn_p (s : Dev nD) : (rowsOwn s pM).view.set = rowSet s := (View.set_slice_whole cc0_scratch0 _).trans (rect_row s)
theorem set_rowsOwn_g (s : Dev nD) : (rowsOwn s gM).view.set = rowSet s := (View.set_slice_whole cc0_scratch2 _).trans (rect_row s)
theorem set_slotOwn (s : Dev nD) : (slotOwn s sM).view.set = slotSet s :=
  ((View.set_reshape _ _).trans (View.set_slice_whole cc0_scratch1 _)).trans (rect_slot s)

theorem rowSet_disjoint (s s' : Dev nD) (h : s ≠ s') : Disjoint (rowSet s) (rowSet s') :=
  Finset.disjoint_left.mpr fun i h1 h2 => h (Fin.ext ((Finset.mem_filter.mp h1).2.symm.trans (Finset.mem_filter.mp h2).2))
theorem slotSet_disjoint (s s' : Dev nD) (h : s ≠ s') : Disjoint (slotSet s) (slotSet s') :=
  Finset.disjoint_left.mpr fun i h1 h2 => h (Fin.ext ((Finset.mem_filter.mp h1).2.symm.trans (Finset.mem_filter.mp h2).2))
theorem rowSet_cover : Finset.univ.biUnion rowSet = Finset.univ := by
  ext i
  have h : (i 0).val < 256 := (i 0).isLt
  exact ⟨fun _ => Finset.mem_univ _, fun _ => Finset.mem_biUnion.mpr ⟨⟨(i 0).val / 16, show _ < 16 by omega⟩, Finset.mem_univ _,
    Finset.mem_filter.mpr ⟨Finset.mem_univ _, rfl⟩⟩⟩
theorem slotSet_cover : Finset.univ.biUnion slotSet = Finset.univ := by
  ext i
  exact ⟨fun _ => Finset.mem_univ _, fun _ => Finset.mem_biUnion.mpr ⟨⟨(i 0).val, (i 0).isLt⟩, Finset.mem_univ _,
    Finset.mem_filter.mpr ⟨Finset.mem_univ _, rfl⟩⟩⟩

/-! ## Reading a chunk, a slot -/

theorem read_rows_p (s : Dev nD) (f : S256x256.Idx → Elt F .bf16) : (rowsOwn s pM).view.read (Elt F) f = fun j => f (rowAt s j) := rfl
theorem read_rows_g (s : Dev nD) (f : S256x256.Idx → Elt F .bf16) : (rowsOwn s gM).view.read (Elt F) f = fun j => f (rowAt s j) := rfl
theorem read_slot (s : Dev nD) (f : S16x16x256.Idx → Elt F .bf16) :
    (slotOwn s sM).view.read (Elt F) f = fun j => f (slotAt s (ix3 (0 : Fin 1) (j 0) (j 1))) := by
  funext j
  show f (slotAt s (Shape.reshapeEquiv _ j)) = _
  conv_lhs => rw [eq_ix2 j]
  exact congrArg (fun z => f (slotAt s z)) (reshapeEquiv_ix2_1ab _ _ _)

/-! ## What the buffers hold -/

/-- A device's sum, from the products of all. -/
def sumRows (P : Dev nD → S256x256.Idx → Elt F .bf16) (c : Dev nD) : FVec F S16x256 .bf16 :=
  sumOut (steps.foldl (fun a r => addPart a fun j => P (dn c r) (rowAt c (ix2 (j 1) (j 2))))
    (extf .f32 (fun j => P c (rowAt c j)) bitsLt_bf16_f32))

/-- The sums of all devices, gathered. -/
def gather (P : Dev nD → S256x256.Idx → Elt F .bf16) : S256x256.Idx → Elt F .bf16 := fun i =>
  sumRows P ⟨(i 0).val / 16, by have h : (i 0).val < 256 := (i 0).isLt; show _ < 16; omega⟩
    (ix2 ⟨(i 0).val % 16, Nat.mod_lt _ (by decide)⟩ (i 1))

theorem gather_rowAt (P : Dev nD → S256x256.Idx → Elt F .bf16) (s : Dev nD) : (fun j => gather P (rowAt s j)) = sumRows P s := by
  funext j
  have h0 := rowAt_0 s j
  have hj : (j 0).val < 16 := (j 0).isLt
  have hs : (⟨(rowAt s j 0).val / 16, by rw [h0]; have := s.isLt; show _ < 16; have : s.val < 16 := this; omega⟩ : Dev nD) = s := Fin.ext (by show (rowAt s j 0).val / 16 = _; omega)
  have hi : (ix2 ⟨(rowAt s j 0).val % 16, Nat.mod_lt _ (by decide)⟩ (rowAt s j 1) : S16x256.Idx) = j := by
    conv_rhs => rw [eq_ix2 j]
    congr 1
    · exact Fin.ext (by show (rowAt s j 0).val % 16 = _; omega)
    · exact Fin.ext (rowAt_1 s j)
  unfold gather
  rw [hs, hi]

/-- What a device's slots hold once the products of its peers have landed. -/
def slots (P : Dev nD → S256x256.Idx → Elt F .bf16) (c : Dev nD) : S16x16x256.Idx → Elt F .bf16 := fun i =>
  P ⟨(i 0).val, (i 0).isLt⟩ (rowAt c (ix2 (i 1) (i 2)))

theorem slots_slotAt (P : Dev nD → S256x256.Idx → Elt F .bf16) (c s : Dev nD) (j : S1x16x256.Idx) :
    slots P c (slotAt s j) = P s (rowAt c (ix2 (j 1) (j 2))) := by
  unfold slots
  have h0 : (⟨(slotAt s j 0).val, (slotAt s j 0).isLt⟩ : Dev nD) = s := Fin.ext (slotAt_0 s j)
  have h1 : slotAt s j 1 = j 1 := Fin.ext (slotAt_1 s j)
  have h2 : slotAt s j 2 = j 2 := Fin.ext (slotAt_2 s j)
  rw [h0, h1, h2]

theorem read_slot_slots (P : Dev nD → S256x256.Idx → Elt F .bf16) (c s : Dev nD) :
    (slotOwn s sM).view.read (Elt F) (slots P c) = (rowsOwn c pM).view.read (Elt F) (P s) := by
  rw [read_slot]; funext j
  rw [slots_slotAt]
  exact congrArg (fun z => P s (rowAt c z)) (eq_ix2 j).symm

section Memory
variable (m : (ℓ : Loc nD τ sig) → Buf (Elt F) ℓ)

/-- What a fetched operand's staging buffer holds: the operand. -/
abbrev xIn (c : Dev nD) : Vec F S256x256 .f32 := (win0_0.blk (0 : Fin 1)).view.read (Elt F) (m ((c : Thread nD τ).loc main_arg0))

/-- The first weight of layer `i`. -/
def wIn (c : Dev nD) : ℕ → Vec F S256x512 .f32
  | 0 => (win0_1.blk (0 : Fin 1)).view.read (Elt F) (m ((c : Thread nD τ).loc main_arg1))
  | 1 => (win0_3.blk (0 : Fin 1)).view.read (Elt F) (m ((c : Thread nD τ).loc main_arg3))
  | _ => (win0_5.blk (0 : Fin 1)).view.read (Elt F) (m ((c : Thread nD τ).loc main_arg5))
/-- The second weight of layer `i`. -/
def wOut (c : Dev nD) : ℕ → Vec F S512x256 .f32
  | 0 => (win0_2.blk (0 : Fin 1)).view.read (Elt F) (m ((c : Thread nD τ).loc main_arg2))
  | 1 => (win0_4.blk (0 : Fin 1)).view.read (Elt F) (m ((c : Thread nD τ).loc main_arg4))
  | _ => (win0_6.blk (0 : Fin 1)).view.read (Elt F) (m ((c : Thread nD τ).loc main_arg6))

/-- Device `c`'s product in layer `i`. -/
def part : ℕ → Dev nD → S256x256.Idx → Elt F .bf16
  | 0 => fun c => k0_pay1 (xIn m c) (wIn m c 0) (wOut m c 0)
  | i + 1 => fun c => k0_pay14 (gather (part i)) (wIn m c (i + 1)) (wOut m c (i + 1))

/-- The result, the same on every device. -/
def outVal : Vec F S256x256 .f32 := k0_pay42 (gather (part m 2))

end Memory

end Cert.Mlp
-- ==== Proof.Sched.lean ====
/-
# The rounds the sixteen devices keep, what each owes and the levels

Each device has a barrier cell and sixty transfer cells: for each of the two exchanges of a layer (products, sums) and
each of the fifteen steps a cell its transfer leaves by and one a peer's transfer arrives at. A transfer cell has one
round per layer.
-/
module

public import proofs.«01_k».proof.Proof.Vocab
public import Idealize.ShloMosaic.Adequacy
public import Idealize.ShloMosaic.Init
public import Idealize.ShloMosaic.Lib.Rounds
public import Idealize.ShloMosaic.Lib.Ring
public import Idealize.ShloMosaic.Lib.Transfers
public import Idealize.ShloMosaic.Lib.Pipeline.BigSepL

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 15)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Cells -/

/-- A device's cells: the barrier, and `(arrival?, exchange, step)`. -/
abbrev CIx : Type := Option (Bool × Fin 2 × Fin 15)
abbrev bar : CIx := none
abbrev snd (p : Fin 2) (r : Fin 15) : CIx := some (false, p, r)
abbrev rcv (p : Fin 2) (r : Fin 15) : CIx := some (true, p, r)

/-- The number of transfer cell `x`. -/
abbrev xsem (x : Bool × Fin 2 × Fin 15) : DmaSem sig := semAt (bif x.1 then cc0_scratch4 else cc0_scratch3) x.2.1 x.2.2
abbrev csem : CIx → SemLoc sig
  | none => .reg barSem
  | some x => .dma (xsem x)
abbrev cell (c : Dev nD) (x : CIx) : GSem nD τ sig := ((c : Thread nD τ), csem x)

theorem xsem_val : ∀ x : Bool × Fin 2 × Fin 15, (xsem x).val = (bif x.1 then 38 else 8) + 15 * x.2.1.val + x.2.2.val := by
  decide +kernel

theorem csem_inj : Function.Injective csem := by
  intro x y h
  rcases x with _ | x <;> rcases y with _ | y
  · rfl
  · cases h
  · cases h
  · have h' : xsem x = xsem y := by injection h
    have hv := congrArg Fin.val h'
    rw [xsem_val, xsem_val] at hv
    obtain ⟨a, p, r⟩ := x; obtain ⟨a', p', r'⟩ := y
    have hp := p.isLt; have hr := r.isLt; have hp' := p'.isLt; have hr' := r'.isLt
    cases a <;> cases a' <;> simp only [cond_true, cond_false] at hv <;>
      first
        | (exfalso; omega)
        | (have e1 : p = p' := Fin.ext (by omega)
           have e2 : r = r' := Fin.ext (by omega)
           subst e1; subst e2; rfl)

open Classical in
/-- The cell a semaphore is. -/
def decode (s : SemLoc sig) : Option CIx := if h : ∃ x, csem x = s then some h.choose else none

theorem decode_csem (x : CIx) : decode (csem x) = some x := by
  unfold decode
  have h : ∃ y, csem y = csem x := ⟨x, rfl⟩
  rw [dif_pos h]; exact congrArg some (csem_inj h.choose_spec)

/-- A semaphore that is none of the cells. -/
theorem decode_none {s : SemLoc sig} (h : ∀ x, csem x ≠ s) : decode s = none := by
  unfold decode; exact dif_neg fun ⟨x, hx⟩ => h x hx

/-- The credit of sixteen rows. -/
abbrev N : ℕ := (rowsOwn 0 gM).view.dmaCredit
theorem N_pos : 0 < N := View.dmaCredit_pos _ (by decide)

/-! ## Ownership of a chunk, of a slot -/

/-- Slot `s` of device `c`. -/
def slotPts (c s : Dev nD) (f : S16x16x256.Idx → Elt F .bf16) : sProp 𝕄 :=
  (slotOwn s sM).view.loc (c : Thread nD τ) ↦[(slotOwn s sM).view.set]{fullShare} f
/-- Chunk `s` of device `c`'s product. -/
def partPts (c s : Dev nD) (f : S256x256.Idx → Elt F .bf16) : sProp 𝕄 :=
  (rowsOwn s pM).view.loc (c : Thread nD τ) ↦[(rowsOwn s pM).view.set]{fullShare} f
/-- Chunk `s` of device `c`'s gathered sums. -/
def sumPts (c s : Dev nD) (q : PosShare TreeShare) (f : S256x256.Idx → Elt F .bf16) : sProp 𝕄 :=
  (rowsOwn s gM).view.loc (c : Thread nD τ) ↦[(rowsOwn s gM).view.set]{q} f

/-- Any contents. -/
abbrev anySlot (c s : Dev nD) : sProp 𝕄 := iprop(∃ f, slotPts (F := F) c s f)
abbrev anySum (c s : Dev nD) : sProp 𝕄 := iprop(∃ f, sumPts (F := F) c s fullShare f)

instance slotPts_storable (c s : Dev nD) (f) : BI.Storable (upEmb : UEmb _ 𝕄) (slotPts (F := F) c s f) := by unfold slotPts; infer_instance
instance partPts_storable (c s : Dev nD) (f) : BI.Storable (upEmb : UEmb _ 𝕄) (partPts (F := F) c s f) := by unfold partPts; infer_instance
instance sumPts_storable (c s : Dev nD) (q) (f) : BI.Storable (upEmb : UEmb _ 𝕄) (sumPts (F := F) c s q f) := by unfold sumPts; infer_instance

/-- The share of its summed rows a device reads in step `r`. -/
abbrev sh (r : Fin 15) : PosShare TreeShare := Transfers.dealOf fullShare (Finset.univ : Finset (Fin 15)) r

/-! ## The schedule -/

/-- Handed over unless the layer is the last. -/
def ifMore (l : ℕ) (X : sProp 𝕄) : sProp 𝕄 := if l < 2 then X else iprop(emp)
/-- Kept only in the last layer. -/
def ifLast (l : ℕ) (X : sProp 𝕄) : sProp 𝕄 := if l < 2 then iprop(emp) else X

theorem ifMore_last (l : ℕ) (X : sProp 𝕄) : X ⊢ iprop(ifMore (F := F) l X ∗ ifLast (F := F) l X) := by
  unfold ifMore ifLast
  by_cases h : l < 2
  · rw [if_pos h, if_pos h]; iintro H; isplitl [H]; · iexact H
    iempintro
  · rw [if_neg h, if_neg h]; iintro H; isplitr; · iempintro
    iexact H

/-- What peer `s` hands over for step `r` of the products: `c`'s slot on `s`, and that `s` has reached the round. -/
def slotPerm (s c : Dev nD) (r : Fin 15) (l : ℕ) : sProp 𝕄 := iprop(anySlot (F := F) s c ∗ reached ER (cell s (rcv 0 r)) l)
/-- What peer `s` hands over for step `r` of the sums: `c`'s rows on `s`, and that `s` has reached the round. -/
def sumPerm (s c : Dev nD) (r : Fin 15) (l : ℕ) : sProp 𝕄 := iprop(anySum (F := F) s c ∗ reached ER (cell s (rcv 1 r)) l)

/-- What the payer of duty `d` of round `l` of `c`'s cell `x` hands `c`. -/
def pay (c : Dev nD) (x : CIx) (l : ℕ) (d : Fin 15) : sProp 𝕄 :=
  match x with
  | none => anySlot (F := F) (up c d) c
  | some (true, p, k) =>
    if p = 0 then iprop(slotPts c (dn c k) (slots (part m l) c) ∗ sumPerm (F := F) (dn c k) c (rev k) l)
    else iprop(sumPts c (dn c k) fullShare (gather (part m l)) ∗ ifMore (F := F) l (slotPerm (F := F) (dn c k) c (rev k) (l + 1)))
  | some (false, p, k) =>
    if p = 0 then partPts c (up c k) (part m l c) else sumPts c c (sh k) (gather (part m l))

instance pay_storable (c : Dev nD) (x : CIx) (l : ℕ) (d : Fin 15) : BI.Storable (upEmb : UEmb _ 𝕄) (pay m c x l d) := by
  unfold pay sumPerm slotPerm ifMore
  (repeat' split) <;> infer_instance

def rd : Rounds.Schedule (GSem nD τ sig) (Fin 15) 𝕄 where
  duties g r := if g.1.2 = .tc then
      (match decode g.2 with
        | some none => if r = 0 then Finset.univ else ∅
        | some (some _) => if r < 3 then {0} else ∅
        | none => ∅) else ∅
  unitless _ := False
  amount g _ _ := if g.2 = .reg barSem then 1 else N
  payload g r d := match decode g.2 with
    | some x => pay m g.1.1 x r d
    | none => iprop(emp)
  amount_pos g _ _ _ := by
    by_cases h : g.2 = .reg barSem
    · rw [if_pos h]; exact Nat.one_pos
    · rw [if_neg h]; exact N_pos

instance rd_payload_storable (g : GSem nD τ sig) (r : ℕ) (d : Fin 15) :
    BI.Storable (upEmb : UEmb _ 𝕄) ((rd m).payload g r d) := by
  show BI.Storable upEmb (match decode g.2 with
    | some x => pay m g.1.1 x r d
    | none => iprop(emp))
  split <;> infer_instance

section Lemmas
variable (c : Dev nD)

theorem payload_cell (x : CIx) (r : ℕ) (d : Fin 15) : (rd m).payload (cell c x) r d = pay m c x r d := by
  dsimp only [rd]; rw [decode_csem]

theorem duties_bar : (rd m).duties (cell c bar) 0 = Finset.univ := by
  dsimp only [rd]; rw [if_pos rfl, decode_csem]; exact if_pos rfl
theorem duties_x (x : Bool × Fin 2 × Fin 15) {l : ℕ} (hl : l < 3) : (rd m).duties (cell c (some x)) l = {0} := by
  dsimp only [rd]; rw [if_pos rfl, decode_csem]; exact if_pos hl
theorem duties_bar_later : ∀ r, 1 ≤ r → (rd m).duties (cell c bar) r = ∅ := fun r hr => by
  dsimp only [rd]; rw [if_pos rfl, decode_csem]; exact if_neg (by omega)
theorem duties_x_later (x : Bool × Fin 2 × Fin 15) : ∀ r, 3 ≤ r → (rd m).duties (cell c (some x)) r = ∅ := fun r hr => by
  dsimp only [rd]; rw [if_pos rfl, decode_csem]; exact if_neg (by omega)

theorem amount_bar (r : ℕ) (d : Fin 15) : (rd m).amount (cell c bar) r d = 1 := by dsimp only [rd]; exact if_pos rfl
theorem amount_x (x : Bool × Fin 2 × Fin 15) (r : ℕ) (d : Fin 15) : (rd m).amount (cell c (some x)) r d = N := by
  dsimp only [rd]; exact if_neg fun h => by cases h

theorem expect_bar : (rd m).expect (cell c bar) 0 = 15 := by
  unfold Schedule.expect Schedule.amountOf
  rw [duties_bar, Finset.sum_congr rfl fun d _ => amount_bar m c 0 d, Finset.sum_const, Finset.card_univ, Fintype.card_fin, smul_eq_mul]
theorem expect_x (x : Bool × Fin 2 × Fin 15) {l : ℕ} (hl : l < 3) : (rd m).expect (cell c (some x)) l = N := by
  unfold Schedule.expect Schedule.amountOf; rw [duties_x m c x hl, Finset.sum_singleton, amount_x]

theorem rest_bar : bigSep ((rd m).duties (cell c bar) 0 \ ∅) (fun d => (rd m).payload (cell c bar) 0 d)
    = bigSepL steps fun d => anySlot (F := F) (up c d) c := by
  rw [Finset.sdiff_empty, duties_bar, bigSep_univ_eq_bigSepL steps (by decide) (by decide)]
  exact congrArg (bigSepL steps) (funext fun d => payload_cell m c bar 0 d)
theorem rest_x (x : Bool × Fin 2 × Fin 15) {l : ℕ} (hl : l < 3) :
    bigSep ((rd m).duties (cell c (some x)) l \ ∅) (fun d => (rd m).payload (cell c (some x)) l d) = pay m c (some x) l 0 := by
  rw [Finset.sdiff_empty, duties_x m c x hl, bigSep_singleton, payload_cell]

end Lemmas

/-! ## Levels, and what is owed -/

/-- Round `l` of a transfer cell is waited for at index `l`. -/
def L (g : GSem nD τ sig) : Finset ℕ := if g.1.2 = .tc then Finset.range 3 else ∅
/-- Staging and leaving at 0, the barrier at 1, then layer by layer the products and the sums. -/
def lv (g : GSem nD τ sig) (i : ℕ) : ℕ :=
  match decode g.2 with
  | some none => 1
  | some (some (true, p, _)) => 2 + 2 * i + p.val
  | _ => 0

theorem L_of_ne (g : GSem nD τ sig) (h : g.1.2 ≠ .tc) : L g = ∅ := if_neg h
theorem L_tc (c : Dev nD) (sm : SemLoc sig) : L ((c : Thread nD τ), sm) = Finset.range 3 := if_pos rfl
theorem lv_bar (c : Dev nD) (i : ℕ) : lv (cell c bar) i = 1 := by unfold lv; dsimp only; rw [decode_csem]
theorem lv_rcv (c : Dev nD) (p : Fin 2) (r : Fin 15) (i : ℕ) : lv (cell c (rcv p r)) i = 2 + 2 * i + p.val := by unfold lv; dsimp only; rw [decode_csem]
theorem lv_snd (c : Dev nD) (p : Fin 2) (r : Fin 15) (i : ℕ) : lv (cell c (snd p r)) i = 0 := by unfold lv; dsimp only; rw [decode_csem]

/-- Everything owed lies above level `n`. -/
def Above (n : ℕ) (O : CellTallies nD τ sig ℕ) : Prop := ∀ g u, 0 < O g u → u ∈ L g ∧ n < lv g u

theorem Above.zero (n : ℕ) : Above n 0 := fun g u h => absurd h (Nat.lt_irrefl 0)
theorem Above.add {n : ℕ} {O O' : CellTallies nD τ sig ℕ} (h : Above n O) (h' : Above n O') : Above n (O + O') := fun g u hg => by
  rw [Pi.add_apply, Finsupp.add_apply] at hg
  by_cases h0 : 0 < O g u
  · exact h g u h0
  · exact h' g u (by omega)
theorem Above.tally {n : ℕ} (c : Dev nD) (x : CIx) (i k : ℕ) (hi : i < 3) (hn : n < lv (cell c x) i) : Above n (tallyAt (cell c x) i k) := fun g u hg => by
  rw [tallyAt_apply] at hg
  by_cases h : g = cell c x ∧ u = i
  · rw [h.1, h.2, L_tc]; exact ⟨Finset.mem_range.mpr hi, hn⟩
  · rw [if_neg h] at hg; exact absurd hg (Nat.lt_irrefl 0)
theorem Above.mono {n n' : ℕ} {O : CellTallies nD τ sig ℕ} (h : Above n' O) (hn : n ≤ n') : Above n O := fun g u hg =>
  ⟨(h g u hg).1, lt_of_le_of_lt hn (h g u hg).2⟩

theorem mayWait (c : Dev nD) (sm : SemLoc sig) (i : ℕ) (hi : i < 3) (O : CellTallies nD τ sig ℕ) (h : Above (lv ((c : Thread nD τ), sm) i) O) :
    (levAts L lv : sProp 𝕄) ⊢ MayWait (c : Thread nD τ) sm i O :=
  MayOwe.of_cut (L := L) (lev := lv) (lv ((c : Thread nD τ), sm) i)
    (fun p hp => by rw [Finset.mem_singleton.mp hp, L_tc]; exact Finset.mem_range.mpr hi)
    (fun g u hg => (h g u hg).1) (fun p hp => by rw [Finset.mem_singleton.mp hp]) (fun g u hg => (h g u hg).2)

/-- What is owed for the steps of a list, the first summed last. -/
def owed (t : Fin 15 → CellTallies nD τ sig ℕ) : List (Fin 15) → CellTallies nD τ sig ℕ
  | [] => 0
  | k :: l => owed t l + t k

theorem Above.owed {n : ℕ} {t : Fin 15 → CellTallies nD τ sig ℕ} (h : ∀ k, Above n (t k)) : ∀ l, Above n (owed t l)
  | [] => Above.zero n
  | k :: l => (Above.owed h l).add (h k)

/-- A signal to the peer of step `r`; a transfer to it in layer `l`. -/
abbrev owesBar (c : Dev nD) (r : Fin 15) : CellTallies nD τ sig ℕ := tallyAt (cell (up c r) bar) 0 1
abbrev owesX (c : Dev nD) (p : Fin 2) (l : ℕ) (r : Fin 15) : CellTallies nD τ sig ℕ := tallyAt (cell (up c r) (rcv p r)) l N

/-- What a device owes with `n` layers to go. -/
def owedLast (c : Dev nD) : ℕ → CellTallies nD τ sig ℕ
  | 0 => 0
  | n + 1 => (owedLast c n + owed (owesX c 1 (2 - n)) steps) + owed (owesX c 0 (2 - n)) steps
/-- What a device owes before layer `l`. -/
def owedFrom (c : Dev nD) (l : ℕ) : CellTallies nD τ sig ℕ := owedLast c (3 - l)
/-- What a device owes at launch. -/
def owedAll (c : Dev nD) : CellTallies nD τ sig ℕ := owedFrom c 0 + owed (owesBar c) steps

theorem owedFrom_step (c : Dev nD) {l : ℕ} (hl : l < 3) :
    owedFrom c l = (owedFrom c (l + 1) + owed (owesX c 1 l) steps) + owed (owesX c 0 l) steps := by
  unfold owedFrom
  obtain ⟨n, hn⟩ : ∃ n, 3 - l = n + 1 := ⟨2 - l, by omega⟩
  rw [hn, show 3 - (l + 1) = n by omega, owedLast, show 2 - n = l by omega]

theorem above_x (c : Dev nD) (p : Fin 2) {l n : ℕ} (hl : l < 3) (h : n < 2 + 2 * l + p.val) (ls : List (Fin 15)) :
    Above n (owed (owesX c p l) ls) :=
  Above.owed (fun k => Above.tally _ _ _ _ hl (by rw [lv_rcv]; exact h)) ls

theorem above_last (c : Dev nD) : ∀ n, n ≤ 3 → Above (7 - 2 * n) (owedLast c n)
  | 0, _ => Above.zero _
  | n + 1, h => by
    unfold owedLast
    refine ((Above.mono (above_last c n (by omega)) (by omega)).add ?_).add ?_
    · exact above_x c 1 (by omega) (by show _ < 2 + 2 * (2 - n) + 1; omega) _
    · exact above_x c 0 (by omega) (by show _ < 2 + 2 * (2 - n) + 0; omega) _

theorem above_from (c : Dev nD) (l : ℕ) (hl : l ≤ 3) : Above (1 + 2 * l) (owedFrom c l) :=
  Above.mono (above_last c (3 - l) (by omega)) (by omega)

theorem above_all (c : Dev nD) : Above 0 (owedAll c) :=
  (Above.mono (above_from c 0 (by omega)) (by omega)).add
    (Above.owed (fun k => Above.tally _ _ _ _ (by omega) (by rw [lv_bar]; omega)) steps)

end Cert.Mlp
-- ==== Proof.Steps.lean ====
/-
# One step of each loop

The rules for the kernel's signals, transfers and waits at its cells, each stated for one step, and the rule that
carries a step through a loop.
-/
module

public import proofs.«01_k».proof.Proof.Sched

@[expose] public section

noncomputable section

namespace Cert.Mlp

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The weakest precondition of a program on core `c`. -/
abbrev wpc (c : Dev nD) {α : Type} (p : KProg F α) (Q : α → sProp 𝕄) : sProp 𝕄 :=
  wp frame (wpE (defs₀ (F := F)) 𝒱₀ (c : Thread nD τ) none) Set.univ p Q

/-! ## Loops -/

theorem wp_seqs (c : Dev nD) (G : sProp 𝕄) [BI.Persistent G] (f : Fin 15 → KProg F PUnit) (I : List (Fin 15) → sProp 𝕄) (R S : Fin 15 → sProp 𝕄)
    (h : ∀ k l, iprop(G ∗ I (k :: l) ∗ R k) ⊢ wpc c (f k) fun _ => iprop(I l ∗ S k)) :
    ∀ l, iprop(G ∗ I l ∗ bigSepL l R) ⊢ wpc c (seqs f l) fun _ => iprop(I [] ∗ bigSepL l S)
  | [] => by
    show _ ⊢ wp frame _ Set.univ (Prog.ret PUnit.unit) _
    rw [wp_ret, bigSepL_nil, bigSepL_nil]
    iintro ⟨-, HI, HE⟩
    imodintro
    isplitl [HI]; · iexact HI
    iexact HE
  | k :: l => by
    show _ ⊢ wp frame _ Set.univ (f k >>= fun _ => seqs f l) _
    rw [wp_bind, bigSepL_cons', bigSepL_cons']
    iintro ⟨#HG, HI, HR, HL⟩
    iapply wp_wand_r
    isplitl [HI HR]
    · iapply (h k l)
      isplitr; · iexact HG
      isplitl [HI] <;> iassumption
    iintro %a ⟨HI, HS⟩
    iapply wp_wand_r
    isplitl [HI HL]
    · iapply (wp_seqs c G f I R S h l)
      isplitr; · iexact HG
      isplitl [HI] <;> iassumption
    iintro %b ⟨HI, HL⟩
    isplitl [HI]; · iexact HI
    isplitl [HS] <;> iassumption

theorem wp_accs (c : Dev nD) {α : Type} (G : sProp 𝕄) [BI.Persistent G] (f : Fin 15 → α → KProg F α) (g : α → Fin 15 → α) (R S : Fin 15 → sProp 𝕄)
    (I : sProp 𝕄) (h : ∀ k a, iprop(G ∗ I ∗ R k) ⊢ wpc c (f k a) fun b => iprop(⌜b = g a k⌝ ∗ I ∗ S k)) :
    ∀ l a, iprop(G ∗ I ∗ bigSepL l R) ⊢ wpc c (accs f l a) fun b => iprop(⌜b = l.foldl g a⌝ ∗ I ∗ bigSepL l S)
  | [], a => by
    show _ ⊢ wp frame _ Set.univ (Prog.ret a) _
    rw [wp_ret, bigSepL_nil, bigSepL_nil]
    iintro ⟨-, HI, HE⟩
    imodintro
    isplitr; · ipureintro; rfl
    isplitl [HI]; · iexact HI
    iexact HE
  | k :: l, a => by
    show _ ⊢ wp frame _ Set.univ (f k a >>= fun b => accs f l b) _
    rw [wp_bind, bigSepL_cons', bigSepL_cons']
    iintro ⟨#HG, HI, HR, HL⟩
    iapply wp_wand_r
    isplitl [HI HR]
    · iapply (h k a)
      isplitr; · iexact HG
      isplitl [HI] <;> iassumption
    iintro %b ⟨%hb, HI, HS⟩
    subst hb
    iapply wp_wand_r
    isplitl [HI HL]
    · iapply (wp_accs c G f g R S I h l (g a k))
      isplitr; · iexact HG
      isplitl [HI] <;> iassumption
    iintro %b ⟨%hb, HI, HL⟩
    isplitr; · ipureintro; exact hb
    isplitl [HI]; · iexact HI
    isplitl [HS] <;> iassumption

/-! ## What every step may use -/

/-- Every cell's invariant, and that every cell has reached round 0. -/
def records (K : Dev nD × CIx → ℕ) : sProp 𝕄 :=
  iprop((bigSep Finset.univ fun p : Dev nD × CIx => cellInv ER (rd m) (K p) (cell p.1 p.2))
    ∗ bigSep Finset.univ fun p : Dev nD × CIx => reached ER (cell p.1 p.2) 0)
instance records_persistent (K : Dev nD × CIx → ℕ) : BI.Persistent (records m K) := by unfold records; infer_instance

/-- The records and the levels. -/
def ctx (K : Dev nD × CIx → ℕ) : sProp 𝕄 := iprop(records m K ∗ levAts L lv)
instance ctx_persistent (K : Dev nD × CIx → ℕ) : BI.Persistent (ctx m K) := by unfold ctx; infer_instance

variable (K : Dev nD × CIx → ℕ)

theorem inv_at (p : Dev nD × CIx) :
    (bigSep Finset.univ fun p : Dev nD × CIx => (cellInv ER (rd m) (K p) (cell p.1 p.2) : sProp 𝕄)) ⊢ cellInv ER (rd m) (K p) (cell p.1 p.2) :=
  bigSep_elim (Finset.mem_univ p)
theorem reached_at (p : Dev nD × CIx) :
    (bigSep Finset.univ fun p : Dev nD × CIx => (reached ER (cell p.1 p.2) 0 : sProp 𝕄)) ⊢ reached ER (cell p.1 p.2) 0 :=
  bigSep_elim (Finset.mem_univ p)

theorem ctx_inv (c : Dev nD) (x : CIx) : ctx m K ⊢ cellInv ER (rd m) (K (c, x)) (cell c x) := by
  unfold ctx records
  iintro ⟨⟨H, -⟩, -⟩
  iapply (inv_at m K (c, x)); iexact H
theorem ctx_reached (c : Dev nD) (x : CIx) : ctx m K ⊢ reached ER (cell c x) 0 := by
  unfold ctx records
  iintro ⟨⟨-, H⟩, -⟩
  iapply (reached_at (c, x)); iexact H
theorem ctx_lev : ctx m K ⊢ (levAts L lv : sProp 𝕄) := by
  unfold ctx; iintro ⟨-, H⟩; iexact H

set_option maxRecDepth 65536 in
theorem ctx_mayWait (c : Dev nD) (sm : SemLoc sig) (i : ℕ) (hi : i < 3) (O : CellTallies nD τ sig ℕ) (h : Above (lv ((c : Thread nD τ), sm) i) O) :
    ctx m K ⊢ (MayWait (c : Thread nD τ) sm i O : sProp 𝕄) :=
  BIBase.Entails.trans (ctx_lev m K) (mayWait (F := F) c sm i hi O h)

/-- What core `c` owes, whatever it has waited for. -/
def owing (c : Dev nD) (O : CellTallies nD τ sig ℕ) : sProp 𝕄 := iprop(∃ W, owes (c : Thread nD τ) O W)

/-! ## Signals, waits, transfers -/

theorem step_hello (c : Dev nD) (B : CellTallies nD τ sig ℕ) (r : Fin 15) (l : List (Fin 15)) :
    iprop(ctx m K ∗ owing c (B + owed (owesBar c) (r :: l)) ∗ (anySlot (F := F) c (up c r) ∗ dutyTok ER (cell (up c r) bar) 0 (rev r)))
      ⊢ wpc c (hello c r) fun _ => iprop(owing c (B + owed (owesBar c) l) ∗ emp) := by
  unfold hello owing
  rw [devTo_eq]
  simp only [semSignalWord]
  iintro ⟨#HG, ⟨%W, HO⟩, Hs, Ht⟩
  iapply (Rounds.wp_signal 𝒱₀ ER (rd m) (c : Thread nD τ) none (dst := (up c r : Thread nD τ)) (κ := K (up c r, bar))
      (d := rev r) (by rw [duties_bar m (up c r)]; exact Finset.mem_univ _) ((amount_bar m (up c r) 0 (rev r)).trans (by decide)) 0
      (B + owed (owesBar c) l) (add_assoc _ _ _).symm)
    $$ [HO Hs Ht]
  · isplitr; · iapply (ctx_inv m K (up c r) bar); iexact HG
    isplitl [HO]; · iexact HO
    isplitl [Ht]; · iexact Ht
    isplitl [Hs]
    · iapply (Entails.of_eq (payload_cell m (up c r) bar 0 (rev r)).symm)
      unfold pay; dsimp only
      rw [up_up_rev]; iexact Hs
    · iapply (ctx_reached m K (up c r) bar); iexact HG
  iintro HO
  rw [wp_ret]; imodintro
  isplitl [HO]; · iexists W; iexact HO
  iempintro

theorem step_bar (c : Dev nD) (O : CellTallies nD τ sig ℕ) (hO : Above 1 O) :
    iprop(ctx m K ∗ owing c O ∗ atPos ER (cell c bar) 0 ∅ 0 ∗ cred (tallyAt (cell c bar) 0 15))
      ⊢ wpc c (semWaitWord barSem 15#32) fun _ => iprop(owing c O ∗ atPos ER (cell c bar) 1 ∅ 0 ∗ bigSepL steps fun d => anySlot (F := F) (up c d) c) := by
  unfold owing
  simp only [semWaitWord]
  iintro ⟨#HG, ⟨%W, HO⟩, Ha, Hc⟩
  iapply (Rounds.wp_wait_rest_token 𝒱₀ ER (rd m) (c : Thread nD τ) none (κ := K (c, bar))
      (wpE_semWait_eq 𝒱₀ (c : Thread nD τ) none Set.univ) (Set.mem_univ _) 0 (O := O) (W := W) (R := 0) (m := 0) (T := ∅)
      (by rw [expect_bar m c]; decide)) $$ [HO Ha Hc]
  · isplitr; · iapply (ctx_inv m K c bar); iexact HG
    isplitl [Hc]; · iexact Hc
    isplitl [HO]; · iexact HO
    isplitr
    · iapply (ctx_mayWait m K c (.reg barSem) 0 (by omega) O (by rw [lv_bar c 0]; exact hO))
      iexact HG
    iexact Ha
  iintro ⟨HO, Ha, -, Hp⟩
  rw [wp_ret]; imodintro
  isplitl [HO]; · iexists _; iexact HO
  isplitl [Ha]; · iexact Ha
  iapply (Entails.of_eq (rest_bar m c)); iexact Hp

theorem step_wait (c : Dev nD) (x : Bool × Fin 2 × Fin 15) {l : ℕ} (hl : l < 3) (O : CellTallies nD τ sig ℕ) (hO : Above (lv (cell c (some x)) l) O)
    {sem : DmaSem sig} (hs : sem = xsem x) {s s' : Shape} {e e' : EltTy} {src : Memref sig .tc .vmem s' e'} {dst : Memref sig .tc .vmem s e}
    {hsrc : src.view.WordExact} {hdst : dst.view.WordExact} (hN : dst.view.dmaCredit = N) :
    iprop(ctx m K ∗ owing c O ∗ atPos ER (cell c (some x)) l ∅ 0 ∗ cred (tallyAt (cell c (some x)) l N))
      ⊢ wpc c (Prog.lift (.waitDma2 sem src dst hsrc hdst)) fun _ => iprop(owing c O ∗ atPos ER (cell c (some x)) (l + 1) ∅ 0
          ∗ reached ER (cell c (some x)) (l + 1) ∗ pay m c (some x) l 0) := by
  subst hs
  unfold owing
  simp only [Prog.lift]
  iintro ⟨#HG, ⟨%W, HO⟩, Ha, Hc⟩
  iapply (Rounds.wp_wait_rest_token 𝒱₀ ER (rd m) (c : Thread nD τ) none (κ := K (c, some x))
      (wpE_waitDma2_eq 𝒱₀ (c : Thread nD τ) none Set.univ) (Set.mem_univ _) l (O := O) (W := W) (R := l) (m := 0) (T := ∅)
      (by rw [Nat.zero_add, hN]; exact (expect_x m c x hl).symm)) $$ [HO Ha Hc]
  · isplitr; · iapply (ctx_inv m K c (some x)); iexact HG
    isplitl [Hc]; · rw [hN]; iexact Hc
    isplitl [HO]; · iexact HO
    isplitr
    · iapply (ctx_mayWait m K c (.dma (xsem x)) l hl O hO)
      iexact HG
    iexact Ha
  iintro ⟨HO, Ha, Hr, Hp⟩
  rw [wp_ret]; imodintro
  isplitl [HO]; · iexists _; iexact HO
  isplitl [Ha]; · iexact Ha
  isplitl [Hr]; · iexact Hr
  iapply (Entails.of_eq (rest_x m c x hl)); iexact Hp

theorem step_send (c n : Dev nD) (p : Fin 2) (r : Fin 15) (hn : n = up c r) {l : ℕ} (hl : l < 3) (B : CellTallies nD τ sig ℕ) (ls : List (Fin 15))
    {semS semR : DmaSem sig} (hS : semS = xsem (false, p, r)) (hR : semR = xsem (true, p, r))
    {src : Memref sig .tc .vmem S16x256 .bf16} {dst : Memref sig .tc .vmem S16x256 .bf16}
    {hsc : dst.view.ref.isScScratch = false} {hsrc : src.view.WordExact} {hdst : dst.view.WordExact}
    {hsem : DmaTarget.Typed .vmem (.dma semR) (.remote (Dev.tc n : Thread nD τ) dst (.dma semS) hsc)}
    (hN : dst.view.dmaCredit = N) {q : PosShare TreeShare}
    {fs : Buf (Elt F) (src.view.loc (c : Thread nD τ))} {fd : Buf (Elt F) (dst.view.loc (up c r : Thread nD τ))} (Fr : sProp 𝕄)
    (hpay₁ : (src.view.loc (c : Thread nD τ) ↦[src.view.set]{q} fs) ⊢ pay m c (snd p r) l 0)
    (hpay₂ : iprop((dst.view.loc (up c r : Thread nD τ) ↦[dst.view.set]{fullShare} dst.view.write (Elt F) fd (src.view.read (Elt F) fs) Finset.univ) ∗ Fr)
      ⊢ pay m (up c r) (rcv p r) l 0) :
    iprop(ctx m K ∗ owing c (B + owed (owesX c p l) (r :: ls))
        ∗ ((src.view.loc (c : Thread nD τ) ↦[src.view.set]{q} fs) ∗ ((dst.view.loc (up c r : Thread nD τ) ↦[dst.view.set]{fullShare} fd) ∗ Fr)
          ∗ dutyTok ER (cell c (snd p r)) l 0 ∗ reached ER (cell c (snd p r)) l ∗ dutyTok ER (cell (up c r) (rcv p r)) l 0 ∗ reached ER (cell (up c r) (rcv p r)) l))
      ⊢ wpc c (Prog.lift (.enqueueDma src (.remote (Dev.tc n : Thread nD τ) dst (.dma semS) hsc) (.dma semR) hsrc hdst hsem))
          fun _ => iprop(owing c (B + owed (owesX c p l) ls) ∗ cred (tallyAt (cell c (snd p r)) l N)) := by
  subst hn hS hR
  unfold owing
  simp only [Prog.lift]
  iintro ⟨#HG, ⟨%W, HO⟩, Hs, Hd, Ht, #Hr, Ht', #Hr'⟩
  iapply (Rounds.wp_send_pointsTo_with 𝒱₀ ER (rd m) (c : Thread nD τ) none (c' := (up c r : Thread nD τ)) (κ₁ := K (c, snd p r)) (κ₂ := K (up c r, rcv p r))
      (r₁ := l) (r₂ := l) (d₁ := 0) (d₂ := 0) (fs := fs) (fd := fd) (F := Fr) (q := q)
      (by rw [duties_x m c (false, p, r) hl]; exact Finset.mem_singleton_self _)
      (by rw [duties_x m (up c r) (true, p, r) hl]; exact Finset.mem_singleton_self _)
      l l N (show dst.view.amount (.dma (xsem (true, p, r))) = N from hN) (amount_x m c (false, p, r) l 0) (amount_x m (up c r) (true, p, r) l 0) (B + owed (owesX c p l) ls) (add_assoc _ _ _).symm (W := W)
      (hpay₁.trans (Entails.of_eq (payload_cell m c (snd p r) l 0).symm)) (hpay₂.trans (Entails.of_eq (payload_cell m (up c r) (rcv p r) l 0).symm)))
    $$ [HO Hs Hd Ht Ht']
  · isplitr; · iapply (ctx_inv m K c (snd p r)); iexact HG
    isplitr; · iapply (ctx_inv m K (up c r) (rcv p r)); iexact HG
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  rw [wp_ret]; imodintro
  isplitl [HO]; · iexists W; iexact HO
  iexact Hc

end Cert.Mlp
-- ==== Proof.Pieces.lean ====
/-
# Buffers in pieces

A device's product, its slots and its gathered sums, whole and by the sixteen chunks; a list's separating conjunction.
-/
module

public import proofs.«01_k».proof.Proof.Steps

@[expose] public section

noncomputable section

namespace Cert.Mlp

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Lists -/

theorem bigSepL_both {I : Type} (Φ Ψ : I → sProp 𝕄) : ∀ l : List I,
    bigSepL l (fun i => iprop(Φ i ∗ Ψ i)) ⊣⊢ iprop(bigSepL l Φ ∗ bigSepL l Ψ)
  | [] => by
    rw [bigSepL_nil, bigSepL_nil, bigSepL_nil]
    constructor
    · iintro H; isplitl [H]; · iexact H
      iempintro
    · iintro ⟨H, -⟩; iexact H
  | i :: l => by
    rw [bigSepL_cons', bigSepL_cons', bigSepL_cons']
    have ih := bigSepL_both Φ Ψ l
    constructor
    · iintro ⟨⟨H1, H2⟩, H⟩
      ihave H := ih.1 $$ H
      icases H with ⟨H3, H4⟩
      isplitl [H1 H3]
      · isplitl [H1] <;> iassumption
      · isplitl [H2] <;> iassumption
    · iintro ⟨⟨H1, H3⟩, ⟨H2, H4⟩⟩
      isplitl [H1 H2]
      · isplitl [H1] <;> iassumption
      iapply ih.2
      isplitl [H3] <;> iassumption

theorem split2 {I : Type} {l : List I} {X Φ Ψ : I → sProp 𝕄} (h : ∀ i, X i ⊢ iprop(Φ i ∗ Ψ i)) :
    bigSepL l X ⊢ iprop(bigSepL l Φ ∗ bigSepL l Ψ) := BIBase.Entails.trans (bigSepL_mono fun i _ => h i) (bigSepL_both Φ Ψ l).1
theorem merge2 {I : Type} {l : List I} {X Φ Ψ : I → sProp 𝕄} (h : ∀ i, iprop(Φ i ∗ Ψ i) ⊢ X i) :
    iprop(bigSepL l Φ ∗ bigSepL l Ψ) ⊢ bigSepL l X := BIBase.Entails.trans (bigSepL_both Φ Ψ l).2 (bigSepL_mono fun i _ => h i)

/-- The steps in the opposite order. -/
theorem steps_rev (Φ : Fin 15 → sProp 𝕄) : bigSepL steps (fun k => Φ (rev k)) = bigSepL steps Φ := by
  rw [← bigSepL_map rev steps Φ, ← bigSep_univ_eq_bigSepL (steps.map rev) (by decide) (by decide),
    bigSep_univ_eq_bigSepL steps (by decide) (by decide)]

set_option maxRecDepth 4000 in
/-- All devices: this one and its fifteen peers. -/
theorem bigSep_peers (c : Dev nD) (Φ : Dev nD → sProp 𝕄) : bigSep Finset.univ Φ = iprop(Φ c ∗ bigSepL steps fun r => Φ (up c r)) := by
  rw [bigSep_univ_eq_bigSepL (c :: steps.map (up c)) (by revert c; decide +kernel) (by revert c; decide +kernel), bigSepL_cons', bigSepL_map]

/-! ## Chunks -/

theorem partPts_eq (c s : Dev nD) (f : S256x256.Idx → Elt F .bf16) :
    partPts c s f = (((c : Thread nD τ).loc cc0_scratch0) ↦[rowSet s]{fullShare} f : sProp 𝕄) := by
  unfold partPts; rw [set_rowsOwn_p]
theorem sumPts_eq (c s : Dev nD) (q : PosShare TreeShare) (f : S256x256.Idx → Elt F .bf16) :
    sumPts c s q f = (((c : Thread nD τ).loc cc0_scratch2) ↦[rowSet s]{q} f : sProp 𝕄) := by
  unfold sumPts; rw [set_rowsOwn_g]
theorem slotPts_eq (c s : Dev nD) (f : S16x16x256.Idx → Elt F .bf16) :
    slotPts c s f = (((c : Thread nD τ).loc cc0_scratch1) ↦[slotSet s]{fullShare} f : sProp 𝕄) := by
  unfold slotPts; rw [set_slotOwn]

/-- A device's product, its gathered sums, its slots. -/
abbrev partAll (c : Dev nD) (f : S256x256.Idx → Elt F .bf16) : sProp 𝕄 := ((c : Thread nD τ).loc cc0_scratch0) ↦{fullShare} f
abbrev sumAll (c : Dev nD) (f : S256x256.Idx → Elt F .bf16) : sProp 𝕄 := ((c : Thread nD τ).loc cc0_scratch2) ↦{fullShare} f
abbrev slotAll (c : Dev nD) (f : S16x16x256.Idx → Elt F .bf16) : sProp 𝕄 := ((c : Thread nD τ).loc cc0_scratch1) ↦{fullShare} f

theorem partAll_eq (c : Dev nD) (f : S256x256.Idx → Elt F .bf16) :
    partAll c f = iprop(partPts (F := F) c c f ∗ bigSepL steps fun r => partPts (F := F) c (up c r) f) := by
  rw [← bigSep_peers c (fun s => partPts (F := F) c s f)]
  exact (Ring.pointsTo_blocks (ℓ := (c : Thread nD τ).loc cc0_scratch0) rowSet rowSet_disjoint rowSet_cover f).trans <| congrArg (bigSep Finset.univ) (funext fun s => (partPts_eq c s f).symm)
theorem sumAll_eq (c : Dev nD) (f : S256x256.Idx → Elt F .bf16) :
    sumAll c f = iprop(sumPts (F := F) c c fullShare f ∗ bigSepL steps fun r => sumPts (F := F) c (up c r) fullShare f) := by
  rw [← bigSep_peers c (fun s => sumPts (F := F) c s fullShare f)]
  exact (Ring.pointsTo_blocks (ℓ := (c : Thread nD τ).loc cc0_scratch2) rowSet rowSet_disjoint rowSet_cover f).trans <| congrArg (bigSep Finset.univ) (funext fun s => (sumPts_eq c s fullShare f).symm)
theorem slotAll_eq (c : Dev nD) (f : S16x16x256.Idx → Elt F .bf16) :
    slotAll c f = iprop(slotPts (F := F) c c f ∗ bigSepL steps fun r => slotPts (F := F) c (up c r) f) := by
  rw [← bigSep_peers c (fun s => slotPts (F := F) c s f)]
  exact (Ring.pointsTo_blocks (ℓ := (c : Thread nD τ).loc cc0_scratch1) slotSet slotSet_disjoint slotSet_cover f).trans <| congrArg (bigSep Finset.univ) (funext fun s => (slotPts_eq c s f).symm)
theorem slotAll_join (c : Dev nD) :
    iprop(anySlot (F := F) c c ∗ bigSepL steps fun r => anySlot (F := F) c (up c r)) ⊢ iprop(∃ f, slotAll (F := F) c f) := by
  have hm : ∀ s, anySlot (F := F) c s ⊢ iprop(∃ f, ((c : Thread nD τ).loc cc0_scratch1) ↦[slotSet s]{fullShare} f) := fun s => by
    iintro ⟨%g, H⟩; iexists g; rw [← slotPts_eq]; iexact H
  iintro ⟨⟨%f, H⟩, Hs⟩
  iapply (Ring.pointsTo_blocks_join_exists (ℓ := (c : Thread nD τ).loc cc0_scratch1) slotSet slotSet_disjoint slotSet_cover f)
  iapply (show bigSep Finset.univ (fun s => anySlot (F := F) c s) ⊢ bigSep Finset.univ (fun s => iprop(∃ f, ((c : Thread nD τ).loc cc0_scratch1) ↦[slotSet s]{fullShare} f)) from
    bigSep_mono fun s _ => hm s)
  rw [bigSep_peers c (fun s => anySlot (F := F) c s)]
  isplitl [H]; · iexists f; iexact H
  iexact Hs

/-- A chunk of sums at the fifteen shares its transfers read. -/
theorem sumPts_deal (c s : Dev nD) (f : S256x256.Idx → Elt F .bf16) :
    sumPts c s fullShare f = bigSepL steps fun r => sumPts (F := F) c s (sh r) f := by
  rw [← bigSep_univ_eq_bigSepL steps (by decide) (by decide)]
  unfold sumPts
  exact Transfers.pointsTo_deal (Finset.univ : Finset (Fin 15)) ⟨0, Finset.mem_univ _⟩ fullShare

/-! ## Through a view -/

/-- Written through a view, its elements hold any contents that read there what was written. -/
theorem pts_write (c : Dev nD) {sp : Space} {s : Shape} {e : EltTy} (v : View sig .tc sp s e) (f : v.ty.Contents (Elt F)) (w : s.Idx → Elt F e)
    (g : v.ty.Contents (Elt F)) (h : v.read (Elt F) g = w) :
    ((v.loc (c : Thread nD τ)) ↦[v.set]{fullShare} v.write (Elt F) f w Finset.univ : sProp 𝕄)
      = (v.loc (c : Thread nD τ)) ↦[v.set]{fullShare} g := by
  refine pointsTo_congr fun i hi => ?_
  obtain ⟨x, -, rfl⟩ := Finset.mem_map.mp hi
  rw [View.write_emb_of_mem _ _ (Finset.mem_univ x), ← h, View.read]
  simp only [cast_cast, cast_eq]

theorem emb_off {s : Shape} {off off' size : Fin s.rank → Nat} (h : off = off') (i : ∀ a, off a + size a ≤ s.size a)
    (i' : ∀ a, off' a + size a ≤ s.size a) (j : (Rect.unit (s := s) off size i).shape.Idx) :
    (Rect.unit (s := s) off size i).emb j = (Rect.unit (s := s) off' size i').emb j := by
  subst h; rfl
theorem set_off {s : Shape} {off off' size : Fin s.rank → Nat} (h : off = off') (i : ∀ a, off a + size a ≤ s.size a)
    (i' : ∀ a, off' a + size a ≤ s.size a) : (Rect.unit (s := s) off size i).set = (Rect.unit (s := s) off' size i').set := by
  subst h; rfl

theorem set_rowsTo (d : Dev nD) (r : Fin 15) : (rowsTo d pM r).view.set = rowSet (up d r) :=
  (View.set_slice_whole cc0_scratch0 _).trans ((set_off (off2_eq d r) _ _).trans (rect_row (up d r)))
theorem read_rowsTo (d : Dev nD) (r : Fin 15) (f : S256x256.Idx → Elt F .bf16) :
    (rowsTo d pM r).view.read (Elt F) f = fun j => f (rowAt (up d r) j) :=
  funext fun j => congrArg f (emb_off (s := S256x256) (off2_eq d r) (k0_off2_inb d r) (k0_off5_inb (up d r)) j)

theorem partPts_to (c : Dev nD) (r : Fin 15) (f : S256x256.Idx → Elt F .bf16) :
    partPts c (up c r) f = (((rowsTo c pM r).view.loc (c : Thread nD τ)) ↦[(rowsTo c pM r).view.set]{fullShare} f : sProp 𝕄) := by
  rw [partPts_eq, set_rowsTo]

end Cert.Mlp
-- ==== Proof.Exchange.lean ====
/-
# A layer's exchange

From every device's product to the gathered sums, in any of the three layers.
-/
module

public import proofs.«01_k».proof.Proof.Pieces

@[expose] public section

noncomputable section

namespace Cert.Mlp

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CIx → ℕ)

theorem pay_rcv0 (c : Dev nD) (k : Fin 15) (l : ℕ) (d : Fin 15) :
    pay m c (rcv 0 k) l d = iprop(slotPts c (dn c k) (slots (part m l) c) ∗ sumPerm (F := F) (dn c k) c (rev k) l) := by
  unfold pay; exact if_pos rfl
theorem pay_rcv1 (c : Dev nD) (k : Fin 15) (l : ℕ) (d : Fin 15) : pay m c (rcv 1 k) l d
    = iprop(sumPts c (dn c k) fullShare (gather (part m l)) ∗ ifMore (F := F) l (slotPerm (F := F) (dn c k) c (rev k) (l + 1))) := by
  unfold pay; exact if_neg (by decide)
theorem pay_snd0 (c : Dev nD) (k : Fin 15) (l : ℕ) (d : Fin 15) : pay m c (snd 0 k) l d = partPts c (up c k) (part m l c) := by
  unfold pay; exact if_pos rfl
theorem pay_snd1 (c : Dev nD) (k : Fin 15) (l : ℕ) (d : Fin 15) : pay m c (snd 1 k) l d = sumPts c c (sh k) (gather (part m l)) := by
  unfold pay; exact if_neg (by decide)

/-! ## The six loops, a step of each -/

/-- Cell `x` of device `c` at the beginning of round `l`: the device's position, and that it is known. -/
def at_ (c : Dev nD) (x : CIx) (l : ℕ) : sProp 𝕄 := iprop(atPos ER (cell c x) l ∅ 0 ∗ reached ER (cell c x) l)

section Step
variable (c : Dev nD) {l : ℕ} (hl : l < 3) (B : CellTallies nD τ sig ℕ)

/-- What the transfer of step `r` of the products takes. -/
def outPart (c : Dev nD) (l : ℕ) (r : Fin 15) : sProp 𝕄 :=
  iprop(partPts c (up c r) (part m l c) ∗ slotPerm (F := F) (up c r) c r l ∗ anySum (F := F) c (up c r) ∗ reached ER (cell c (rcv 1 (rev r))) l
    ∗ reached ER (cell c (snd 0 r)) l ∗ dutyTok ER (cell c (snd 0 r)) l 0 ∗ dutyTok ER (cell (up c r) (rcv 0 r)) l 0)

include hl in
theorem step_sendPart (r : Fin 15) (ls : List (Fin 15)) :
    iprop(ctx m K ∗ owing c (B + owed (owesX c 0 l) (r :: ls)) ∗ outPart m c l r)
      ⊢ wpc c (sendPart pM (Memref.isWhole_whole _) sM (Memref.isWhole_whole _) cc0_scratch3 cc0_scratch4 c r)
          fun _ => iprop(owing c (B + owed (owesX c 0 l) ls) ∗ cred (tallyAt (cell c (snd 0 r)) l N)) := by
  unfold sendPart outPart slotPerm anySlot
  rw [partPts_to]
  iintro ⟨#HG, HO, Hp, ⟨⟨%fd, Hd⟩, #Hr'⟩, Hx, #Hrx, #Hr, Ht, Ht'⟩
  iapply (step_send m K c (devTo c r) 0 r (devTo_eq c r) hl B ls (semS := semAt cc0_scratch3 0 r) (semR := semAt cc0_scratch4 0 r) rfl rfl
    (src := rowsTo c pM r) (dst := slotOwn c sM) rfl (q := fullShare) (fs := part m l c) (fd := fd)
    (iprop(anySum (F := F) c (up c r) ∗ reached ER (cell c (rcv 1 (rev r))) l))
    (by rw [← partPts_to]; unfold pay; exact .rfl)
    (by
      rw [pts_write (up c r) (slotOwn c sM).view fd _ (slots (part m l) (up c r)) (by rw [read_slot_slots, read_rowsTo]; rfl)]
      unfold pay sumPerm; dsimp only
      rw [if_pos rfl, dn_up]; exact .rfl))
  isplitr; · iexact HG
  isplitl [HO]; · iexact HO
  isplitl [Hp]; · iexact Hp
  isplitl [Hd Hx]
  · isplitl [Hd]; · unfold slotPts; iexact Hd
    isplitl [Hx]; · iexact Hx
    iexact Hrx
  isplitl [Ht]; · iexact Ht
  isplitr; · iexact Hr
  isplitl [Ht']; · iexact Ht'
  iexact Hr'

/-- What the transfer of step `r` of the sums takes. -/
def outSum (c : Dev nD) (l : ℕ) (r : Fin 15) : sProp 𝕄 :=
  iprop(sumPts c c (sh r) (gather (part m l)) ∗ sumPerm (F := F) (up c r) c r l ∗ anySlot (F := F) c (up c r) ∗ reached ER (cell c (rcv 0 (rev r))) (l + 1)
    ∗ reached ER (cell c (snd 1 r)) l ∗ dutyTok ER (cell c (snd 1 r)) l 0 ∗ dutyTok ER (cell (up c r) (rcv 1 r)) l 0)

include hl in
theorem step_sendSum (r : Fin 15) (ls : List (Fin 15)) :
    iprop(ctx m K ∗ owing c (B + owed (owesX c 1 l) (r :: ls)) ∗ outSum m c l r)
      ⊢ wpc c (sendSum gM (Memref.isWhole_whole _) cc0_scratch3 cc0_scratch4 c r)
          fun _ => iprop(owing c (B + owed (owesX c 1 l) ls) ∗ (cred (tallyAt (cell c (snd 1 r)) l N) ∗ ifLast (F := F) l (anySlot (F := F) c (up c r)))) := by
  unfold sendSum outSum sumPerm anySum
  iintro ⟨#HG, HO, Hp, ⟨⟨%fd, Hd⟩, #Hr'⟩, Hx, #Hrx, #Hr, Ht, Ht'⟩
  ihave Hx := (ifMore_last (F := F) l (slotPerm (F := F) c (up c r) (rev r) (l + 1))) $$ [Hx]
  · unfold slotPerm
    isplitl [Hx]; · iexact Hx
    iexact Hrx
  icases Hx with ⟨Hx, Hy⟩
  iapply wp_wand_r
  isplitl [HO Hp Hd Hx Ht Ht']
  · iapply (step_send m K c (devTo c r) 1 r (devTo_eq c r) hl B ls (semS := semAt cc0_scratch3 1 r) (semR := semAt cc0_scratch4 1 r) rfl rfl
      (src := rowsOwn c gM) (dst := rowsOwn c gM) rfl (q := sh r) (fs := gather (part m l)) (fd := fd)
      (ifMore (F := F) l (slotPerm (F := F) c (up c r) (rev r) (l + 1)))
      (by unfold pay; dsimp only; rw [if_neg (by decide)]; exact .rfl)
      (by
        rw [pts_write (up c r) (rowsOwn c gM).view fd _ (gather (part m l)) rfl]
        unfold pay; dsimp only
        rw [if_neg (by decide), dn_up]; exact .rfl))
    isplitr; · iexact HG
    isplitl [HO]; · iexact HO
    isplitl [Hp]; · unfold sumPts; iexact Hp
    isplitl [Hd Hx]
    · isplitl [Hd]; · unfold sumPts; iexact Hd
      iexact Hx
    isplitl [Ht]; · iexact Ht
    isplitr; · iexact Hr
    isplitl [Ht']; · iexact Ht'
    iexact Hr'
  iintro %a ⟨HO, Hc⟩
  isplitl [HO]; · iexact HO
  isplitl [Hc]; · iexact Hc
  iapply (show ifLast (F := F) l (slotPerm (F := F) c (up c r) (rev r) (l + 1)) ⊢ ifLast (F := F) l (anySlot (F := F) c (up c r)) from by
    unfold ifLast slotPerm; split
    · exact .rfl
    · iintro ⟨H, -⟩; iexact H)
  iexact Hy

/-- What the wait for the product of step `k` gives. -/
def inPart (c : Dev nD) (l : ℕ) (k : Fin 15) : sProp 𝕄 :=
  iprop(at_ (F := F) c (rcv 0 k) (l + 1) ∗ slotPts c (dn c k) (slots (part m l) c) ∗ sumPerm (F := F) (dn c k) c (rev k) l)

/-- A wait's position and credit. -/
def due (c : Dev nD) (x : CIx) (l : ℕ) : sProp 𝕄 := iprop(atPos ER (cell c x) l ∅ 0 ∗ cred (tallyAt (cell c x) l N))

/-- The rows of device `c` in the product of its peer of step `k`. -/
abbrev peerRows (c : Dev nD) (l : ℕ) (k : Fin 15) : Vec F S1x16x256 .bf16 := fun j => part m l (dn c k) (rowAt c (ix2 (j 1) (j 2)))

include hl in
theorem step_recvPart (O : CellTallies nD τ sig ℕ) (hO : Above (2 + 2 * l) O) (k : Fin 15) (a : FVec F S16x256 .f32) :
    iprop(ctx m K ∗ owing c O ∗ due (F := F) c (rcv 0 k) l)
      ⊢ wpc c (recvPart pM (Memref.isWhole_whole _) sM (Memref.isWhole_whole _) cc0_scratch4 c k a)
          fun b => iprop(⌜b = addPart a (peerRows m c l k)⌝ ∗ owing c O ∗ inPart m c l k) := by
  unfold recvPart inPart waitPart due at_
  rw [slotPts_eq]
  show _ ⊢ wp frame _ Set.univ (Prog.lift _ >>= _) _
  rw [wp_bind]
  iintro ⟨#HG, HO, Ha, Hc⟩
  iapply wp_wand_r
  isplitl [HO Ha Hc]
  · iapply (step_wait m K c (true, 0, k) hl O (by rw [lv_rcv]; exact hO) (sem := semAt cc0_scratch4 0 k) rfl
      (src := rowsOwn c pM) (dst := slotFrom c sM k) rfl)
    isplitr; · iexact HG
    isplitl [HO]; · iexact HO
    isplitl [Ha] <;> iassumption
  iintro %u ⟨HO, Ha, Hr, Hp⟩
  ihave Hp := (Entails.of_eq (pay_rcv0 m c k l 0)) $$ Hp
  icases Hp with ⟨Hs, Hx⟩
  ihave Hs := (Entails.of_eq (slotPts_eq c (dn c k) (slots (part m l) c))) $$ Hs
  iapply (wp_load 𝒱₀ (c : Thread nD τ) none Set.univ (m := sM)
    (r := (Rect.unit (s := S16x16x256) (k0_off6 c (wd k)) S1x16x256.size (k0_off6_inb c k)).toLoadRect) (S := slotSet (dn c k))
    (by
      rw [← rect_slot, ← set_off (s := S16x16x256) (off6_eq c k) (k0_off6_inb c k) (k0_off1_inb (dn c k))]
      intro i hi
      obtain ⟨j, hj, rfl⟩ := Finset.mem_map.mp hi
      exact hj)) $$ Hs
  iintro Hs
  rw [wp_ret]; imodintro
  isplitr
  · ipureintro
    refine congrArg (addPart a) (funext fun j => ?_)
    show slots (part m l) c ((Rect.unit (s := S16x16x256) (k0_off6 c (wd k)) S1x16x256.size (k0_off6_inb c k)).emb j) = _
    rw [emb_off (s := S16x16x256) (off6_eq c k) (k0_off6_inb c k) (k0_off1_inb (dn c k)) j]
    exact slots_slotAt (part m l) c (dn c k) j
  isplitl [HO]; · iexact HO
  isplitl [Ha Hr]
  · isplitl [Ha] <;> iassumption
  isplitl [Hs] <;> iassumption

/-- What the wait for the sum of step `k` gives. -/
def inSum (c : Dev nD) (l : ℕ) (k : Fin 15) : sProp 𝕄 :=
  iprop(at_ (F := F) c (rcv 1 k) (l + 1) ∗ sumPts c (dn c k) fullShare (gather (part m l)) ∗ ifMore (F := F) l (slotPerm (F := F) (dn c k) c (rev k) (l + 1)))

include hl in
theorem step_waitSum (O : CellTallies nD τ sig ℕ) (hO : Above (3 + 2 * l) O) (k : Fin 15) :
    iprop(ctx m K ∗ owing c O ∗ due (F := F) c (rcv 1 k) l)
      ⊢ wpc c (waitSum gM (Memref.isWhole_whole _) cc0_scratch4 c k) fun _ => iprop(owing c O ∗ inSum m c l k) := by
  unfold waitSum inSum due at_
  iintro ⟨#HG, HO, Ha, Hc⟩
  iapply wp_wand_r
  isplitl [HO Ha Hc]
  · iapply (step_wait m K c (true, 1, k) hl O (by rw [lv_rcv]; exact Above.mono hO (by show 2 + 2 * l + 1 ≤ _; omega)) (sem := semAt cc0_scratch4 1 k) rfl
      (src := rowsFrom c gM k) (dst := rowsFrom c gM k) rfl)
    isplitr; · iexact HG
    isplitl [HO]; · iexact HO
    isplitl [Ha] <;> iassumption
  iintro %u ⟨HO, Ha, Hr, Hp⟩
  ihave Hp := (Entails.of_eq (pay_rcv1 m c k l 0)) $$ Hp
  icases Hp with ⟨Hs, Hx⟩
  isplitl [HO]; · iexact HO
  isplitl [Ha Hr]
  · isplitl [Ha] <;> iassumption
  isplitl [Hs] <;> iassumption

include hl in
theorem step_leftPart (O : CellTallies nD τ sig ℕ) (hO : Above 0 O) (k : Fin 15) :
    iprop(ctx m K ∗ owing c O ∗ due (F := F) c (snd 0 k) l)
      ⊢ wpc c (leftPart pM (Memref.isWhole_whole _) sM (Memref.isWhole_whole _) cc0_scratch3 c k)
          fun _ => iprop(owing c O ∗ (at_ (F := F) c (snd 0 k) (l + 1) ∗ partPts c (up c k) (part m l c))) := by
  unfold leftPart due at_
  iintro ⟨#HG, HO, Ha, Hc⟩
  iapply wp_wand_r
  isplitl [HO Ha Hc]
  · iapply (step_wait m K c (false, 0, k) hl O (by rw [lv_snd]; exact hO) (sem := semAt cc0_scratch3 0 k) rfl
      (src := slotOwn c sM) (dst := rowsTo c pM k) rfl)
    isplitr; · iexact HG
    isplitl [HO]; · iexact HO
    isplitl [Ha] <;> iassumption
  iintro %u ⟨HO, Ha, Hr, Hp⟩
  ihave Hp := (Entails.of_eq (pay_snd0 m c k l 0)) $$ Hp
  isplitl [HO]; · iexact HO
  isplitl [Ha Hr]
  · isplitl [Ha] <;> iassumption
  iexact Hp

include hl in
theorem step_leftSum (O : CellTallies nD τ sig ℕ) (hO : Above 0 O) (k : Fin 15) :
    iprop(ctx m K ∗ owing c O ∗ due (F := F) c (snd 1 k) l)
      ⊢ wpc c (leftSum gM (Memref.isWhole_whole _) cc0_scratch3 c k)
          fun _ => iprop(owing c O ∗ (at_ (F := F) c (snd 1 k) (l + 1) ∗ sumPts c c (sh k) (gather (part m l)))) := by
  unfold leftSum due at_
  iintro ⟨#HG, HO, Ha, Hc⟩
  iapply wp_wand_r
  isplitl [HO Ha Hc]
  · iapply (step_wait m K c (false, 1, k) hl O (by rw [lv_snd]; exact hO) (sem := semAt cc0_scratch3 1 k) rfl
      (src := rowsOwn c gM) (dst := rowsOwn c gM) rfl)
    isplitr; · iexact HG
    isplitl [HO]; · iexact HO
    isplitl [Ha] <;> iassumption
  iintro %u ⟨HO, Ha, Hr, Hp⟩
  ihave Hp := (Entails.of_eq (pay_snd1 m c k l 0)) $$ Hp
  isplitl [HO]; · iexact HO
  isplitl [Ha Hr]
  · isplitl [Ha] <;> iassumption
  iexact Hp

/-! ## The exchange -/

/-- Positions of the cells of step `r`. -/
def places (c : Dev nD) (l : ℕ) (r : Fin 15) : sProp 𝕄 :=
  iprop(at_ (F := F) c (snd 0 r) l ∗ at_ (F := F) c (snd 1 r) l ∗ at_ (F := F) c (rcv 0 r) l ∗ at_ (F := F) c (rcv 1 r) l)
/-- The tokens and the credit of step `r` in layer `l`. -/
def means (c : Dev nD) (l : ℕ) (r : Fin 15) : sProp 𝕄 :=
  iprop((dutyTok ER (cell c (snd 0 r)) l 0 ∗ dutyTok ER (cell (up c r) (rcv 0 r)) l 0)
    ∗ (dutyTok ER (cell c (snd 1 r)) l 0 ∗ dutyTok ER (cell (up c r) (rcv 1 r)) l 0)
    ∗ cred (tallyAt (cell c (rcv 0 r)) l N) ∗ cred (tallyAt (cell c (rcv 1 r)) l N))

end Step

end Cert.Mlp
-- ==== Proof.Layer.lean ====
/-
# A layer's exchange, whole

The six loops put together: every device's product in, the gathered sums out.
-/
module

public import proofs.«01_k».proof.Proof.Exchange

@[expose] public section

noncomputable section

namespace Cert.Mlp

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CIx → ℕ)

theorem wpc_then (c : Dev nD) {α β : Type} (p : KProg F α) (k : α → KProg F β) (Q : β → sProp 𝕄) :
    (wpc c p fun a => wpc c (k a) Q) ⊢ wpc c (p.bind k) Q := Entails.of_eq (wp_bind _ _ _ p k Q).symm

section
variable (c : Dev nD) (l : ℕ)

/-! ## One step's resources, regrouped -/

/-- What is left of step `r` while its product is on the way. -/
def kept (r : Fin 15) : sProp 𝕄 :=
  iprop(due (F := F) c (rcv 0 r) l ∗ due (F := F) c (rcv 1 r) l ∗ atPos ER (cell c (snd 0 r)) l ∅ 0 ∗ atPos ER (cell c (snd 1 r)) l ∅ 0
    ∗ (reached ER (cell c (snd 1 r)) l ∗ dutyTok ER (cell c (snd 1 r)) l 0 ∗ dutyTok ER (cell (up c r) (rcv 1 r)) l 0))

theorem begin_step (r : Fin 15) :
    iprop((partPts c (up c r) (part m l c) ∗ anySum (F := F) c (up c r)) ∗ slotPerm (F := F) (up c r) c r l
        ∗ (places (F := F) c l r ∗ reached ER (cell c (rcv 1 (rev r))) l) ∗ means (F := F) c l r)
      ⊢ iprop(outPart m c l r ∗ kept (F := F) c l r) := by
  unfold outPart kept places means due at_
  iintro ⟨⟨Hp, Hx⟩, Hs, ⟨⟨⟨Ha0, #Hr0⟩, ⟨Ha1, #Hr1⟩, ⟨Hb0, -⟩, ⟨Hb1, -⟩⟩, #Hr⟩, ⟨Ht0, Ht0'⟩, Hts, Hc0, Hc1⟩
  isplitl [Hp Hx Hs Ht0 Ht0']
  · isplitl [Hp]; · iexact Hp
    isplitl [Hs]; · iexact Hs
    isplitl [Hx]; · iexact Hx
    isplitr; · iexact Hr
    isplitr; · iexact Hr0
    isplitl [Ht0] <;> iassumption
  isplitl [Hb0 Hc0]
  · isplitl [Hb0] <;> iassumption
  isplitl [Hb1 Hc1]
  · isplitl [Hb1] <;> iassumption
  isplitl [Ha0]; · iexact Ha0
  isplitl [Ha1]; · iexact Ha1
  isplitr; · iexact Hr1
  iexact Hts

/-- What the product of step `rev r` brought for the transfer of step `r`. -/
def brought (r : Fin 15) : sProp 𝕄 :=
  iprop(sumPerm (F := F) (up c r) c r l ∗ anySlot (F := F) c (up c r) ∗ reached ER (cell c (rcv 0 (rev r))) (l + 1))

theorem mid_step (k : Fin 15) : inPart m c l k ⊢ iprop(at_ (F := F) c (rcv 0 k) (l + 1) ∗ brought (F := F) c l (rev k)) := by
  unfold inPart brought at_
  rw [up_rev, rev_rev]
  iintro ⟨⟨Ha, #Hr⟩, Hs, Hx⟩
  isplitl [Ha]
  · isplitl [Ha]; · iexact Ha
    iexact Hr
  isplitl [Hx]; · iexact Hx
  isplitl [Hs]; · iexists _; iexact Hs
  iexact Hr

theorem send_step (r : Fin 15) :
    iprop(sumPts c c (sh r) (gather (part m l)) ∗ brought (F := F) c l r
        ∗ (reached ER (cell c (snd 1 r)) l ∗ dutyTok ER (cell c (snd 1 r)) l 0 ∗ dutyTok ER (cell (up c r) (rcv 1 r)) l 0))
      ⊢ outSum m c l r := by
  unfold outSum brought
  iintro ⟨Hs, ⟨Hp, Hx, Hr⟩, Ht⟩
  isplitl [Hs]; · iexact Hs
  isplitl [Hp]; · iexact Hp
  isplitl [Hx]; · iexact Hx
  isplitl [Hr]; · iexact Hr
  iexact Ht

/-- What the sum of step `rev r` brought. -/
def gained (r : Fin 15) : sProp 𝕄 :=
  iprop(sumPts c (up c r) fullShare (gather (part m l)) ∗ ifMore (F := F) l (slotPerm (F := F) (up c r) c r (l + 1)))

theorem last_step (k : Fin 15) : inSum m c l k ⊢ iprop(at_ (F := F) c (rcv 1 k) (l + 1) ∗ gained m c l (rev k)) := by
  unfold inSum gained
  rw [up_rev]

theorem places_step (r : Fin 15) :
    iprop(at_ (F := F) c (snd 0 r) l ∗ at_ (F := F) c (snd 1 r) l ∗ at_ (F := F) c (rcv 0 r) l ∗ at_ (F := F) c (rcv 1 r) l) ⊢ places (F := F) c l r := by
  unfold places; exact .rfl

theorem known_step (r : Fin 15) : places (F := F) c l r ⊢ iprop(places (F := F) c l r ∗ reached ER (cell c (rcv 1 r)) l) := by
  unfold places at_
  iintro ⟨H0, H1, H2, ⟨H3, #Hr⟩⟩
  isplitl [H0 H1 H2 H3]
  · isplitl [H0]; · iexact H0
    isplitl [H1]; · iexact H1
    isplitl [H2]; · iexact H2
    isplitl [H3]; · iexact H3
    iexact Hr
  iexact Hr

/-! ## Before and after -/

/-- What a device starts a layer's exchange with, besides its product. -/
def before : sProp 𝕄 :=
  iprop((bigSepL steps fun r => slotPerm (F := F) (up c r) c r l) ∗ bigSepL steps (places (F := F) c l) ∗ bigSepL steps (means (F := F) c l))
/-- What it ends it with, besides the gathered sums. -/
def after : sProp 𝕄 :=
  iprop((bigSepL steps fun r => ifMore (F := F) l (slotPerm (F := F) (up c r) c r (l + 1))) ∗ bigSepL steps (places (F := F) c (l + 1))
    ∗ bigSepL steps fun r => ifLast (F := F) l (anySlot (F := F) c (up c r)))

theorem begin_all :
    iprop((∃ f, sumAll (F := F) c f) ∗ partAll c (part m l c) ∗ before (F := F) c l)
      ⊢ iprop(anySum (F := F) c c ∗ partPts c c (part m l c) ∗ bigSepL steps (outPart m c l) ∗ bigSepL steps (kept (F := F) c l)) := by
  unfold before
  rw [partAll_eq]
  iintro ⟨⟨%f, Hg⟩, ⟨Hp, Hps⟩, Hs, Hpl, Hm⟩
  ihave Hg := (Entails.of_eq (sumAll_eq c f)) $$ Hg
  icases Hg with ⟨Hg, Hgs⟩
  ihave Hgs := (bigSepL_mono (Ψ := fun r => anySum (F := F) c (up c r)) fun r _ => exists_intro (Φ := fun f => sumPts (F := F) c (up c r) fullShare f) f) $$ Hgs
  ihave Hpl := (split2 (known_step (F := F) c l)) $$ Hpl
  icases Hpl with ⟨Hpl, Hk⟩
  ihave Hk := (Entails.of_eq (steps_rev (fun r => (reached ER (cell c (rcv 1 r)) l : sProp 𝕄))).symm) $$ Hk
  isplitl [Hg]; · iexists f; iexact Hg
  isplitl [Hp]; · iexact Hp
  iapply (split2 (begin_step m c l))
  iapply (bigSepL_both _ _ _).2
  isplitl [Hps Hgs]
  · iapply (bigSepL_both _ _ _).2
    isplitl [Hps] <;> iassumption
  iapply (bigSepL_both _ _ _).2
  isplitl [Hs]; · iexact Hs
  iapply (bigSepL_both _ _ _).2
  isplitl [Hpl Hk]
  · iapply (bigSepL_both _ _ _).2
    isplitl [Hpl] <;> iassumption
  iexact Hm

/-- The rectangle of a device's own rows. -/
abbrev ownRect : Rect S256x256 := Rect.unit (s := S256x256) (k0_off3 c) S16x256.size (k0_off3_inb c)
theorem set_access_p : (pM.access (ownRect c)).set = rowSet c :=
  (View.set_slice_whole cc0_scratch0 _).trans ((set_off (off3_eq c) _ _).trans (rect_row c))
theorem set_access_g : (gM.access (ownRect c)).set = rowSet c :=
  (View.set_slice_whole cc0_scratch2 _).trans ((set_off (off3_eq c) _ _).trans (rect_row c))
theorem read_off3 (f : S256x256.Idx → Elt F .bf16) :
    (fun j => f ((ownRect c).emb j)) = fun j => f (rowAt c j) :=
  funext fun j => congrArg f (emb_off (s := S256x256) (off3_eq c) (k0_off3_inb c) (k0_off5_inb c) j)

/-- The value stored: the sum. -/
theorem stored (f w : S256x256.Idx → Elt F .bf16) (a : FVec F S16x256 .f32)
    (ha : a = steps.foldl (fun a k => addPart a (peerRows m c l k)) (extf .f32 (fun j => part m l c (rowAt c j)) bitsLt_bf16_f32)) :
    (((c : Thread nD τ).loc cc0_scratch2) ↦[rowSet c]{fullShare}
      (gM.access (ownRect c)).write (Elt F) f (sumOut a) Finset.univ : sProp 𝕄)
      = sumPts c c fullShare (gather (part m l)) := by
  rw [sumPts_eq, ← set_access_g]
  refine pts_write c (gM.access (ownRect c)) f (sumOut a) (gather (part m l)) ?_
  show (fun j => gather (part m l) ((ownRect c).emb j)) = _
  rw [read_off3, gather_rowAt, ha]
  rfl

theorem owing_nil (B : CellTallies nD τ sig ℕ) (t : Fin 15 → CellTallies nD τ sig ℕ) :
    owing (F := F) c (B + owed t []) = owing (F := F) c B := congrArg (owing (F := F) c) (add_zero B)
theorem kept_all : bigSepL steps (kept (F := F) c l)
    ⊢ iprop((bigSepL steps fun r => due (F := F) c (rcv 0 r) l) ∗ (bigSepL steps fun r => due (F := F) c (rcv 1 r) l)
      ∗ (bigSepL steps fun r => atPos ER (cell c (snd 0 r)) l ∅ 0) ∗ (bigSepL steps fun r => atPos ER (cell c (snd 1 r)) l ∅ 0)
      ∗ bigSepL steps fun r => iprop(reached ER (cell c (snd 1 r)) l ∗ dutyTok ER (cell c (snd 1 r)) l 0 ∗ dutyTok ER (cell (up c r) (rcv 1 r)) l 0)) := by
  unfold kept
  iintro H
  ihave H := (bigSepL_both _ _ _).1 $$ H
  icases H with ⟨H1, H⟩
  isplitl [H1]; · iexact H1
  ihave H := (bigSepL_both _ _ _).1 $$ H
  icases H with ⟨H2, H⟩
  isplitl [H2]; · iexact H2
  ihave H := (bigSepL_both _ _ _).1 $$ H
  icases H with ⟨H3, H⟩
  isplitl [H3]; · iexact H3
  iapply (bigSepL_both _ _ _).1; iexact H
theorem gained_all : bigSepL steps (gained m c l)
    ⊢ iprop((bigSepL steps fun r => sumPts c (up c r) fullShare (gather (part m l)))
      ∗ bigSepL steps fun r => ifMore (F := F) l (slotPerm (F := F) (up c r) c r (l + 1))) := by
  unfold gained; exact (bigSepL_both _ _ _).1

/-! ## The exchange -/

variable {l}

set_option maxHeartbeats 1600000 in
theorem layer (hl : l < 3) :
    iprop(ctx m K ∗ owing c (owedFrom c l) ∗ (∃ f, sumAll (F := F) c f) ∗ partAll c (part m l c) ∗ before (F := F) c l)
      ⊢ wpc c (exchange pM (Memref.isWhole_whole _) sM (Memref.isWhole_whole _) gM (Memref.isWhole_whole _) cc0_scratch3 cc0_scratch4 c)
          fun _ => iprop(owing c (owedFrom c (l + 1)) ∗ sumAll c (gather (part m l)) ∗ partAll c (part m l c) ∗ after (F := F) c l) := by
  unfold exchange
  rw [owedFrom_step c hl]
  iintro ⟨#HG, HO, Hin⟩
  ihave Hin := (begin_all m c l) $$ Hin
  icases Hin with ⟨⟨%f, Hg⟩, Hp, Hout, Hkept⟩
  -- the products out
  iapply (wpc_then c _ _ _)
  iapply wp_wand_r
  isplitl [HO Hout]
  · iapply (wp_seqs c (ctx m K) _ (fun ls => owing c ((owedFrom c (l + 1) + owed (owesX c 1 l) steps) + owed (owesX c 0 l) ls)) (outPart m c l)
      (fun r => cred (tallyAt (cell c (snd 0 r)) l N)) (step_sendPart m K c hl _))
    isplitr; · iexact HG
    isplitl [HO] <;> iassumption
  iintro %u ⟨HO, Hc0⟩
  ihave HO := (Entails.of_eq (owing_nil c (owedFrom c (l + 1) + owed (owesX c 1 l) steps) (owesX c 0 l))) $$ HO
  -- this device's own rows
  ihave Hp := (Entails.of_eq (partPts_eq c c (part m l c))) $$ Hp
  iapply (wp_load_rect 𝒱₀ (c : Thread nD τ) none Set.univ (m := pM) (r := ownRect c) (S := rowSet c) (by rw [set_access_p])) $$ Hp
  iintro Hp
  iapply (wpc_then c _ _ _)
  -- the products in
  ihave Hkept := (kept_all (F := F) c l) $$ Hkept
  icases Hkept with ⟨Hd0, Hd1, Ha0, Ha1, Ht1⟩
  iapply wp_wand_r
  isplitl [HO Hd0]
  · iapply (wp_accs c (ctx m K) _ (fun a k => addPart a (peerRows m c l k)) (fun k => due (F := F) c (rcv 0 k) l) (inPart m c l) _
      (step_recvPart m K c hl _ (Above.add (Above.mono (above_from c (l + 1) (by omega)) (by omega)) (above_x c 1 hl (by show _ < 2 + 2 * l + 1; omega) _))))
    isplitr; · iexact HG
    isplitl [HO] <;> iassumption
  iintro %a ⟨%ha, HO, Hin⟩
  ihave Hin := (split2 (mid_step m c l)) $$ Hin
  icases Hin with ⟨Hb0, Hin⟩
  ihave Hin := (Entails.of_eq (steps_rev (brought (F := F) c l))) $$ Hin
  -- the sum, stored
  ihave Hg := (Entails.of_eq (sumPts_eq c c fullShare f)) $$ Hg
  iapply (wp_load_rect 𝒱₀ (c : Thread nD τ) none Set.univ (m := gM) (r := ownRect c) (S := rowSet c) (by rw [set_access_g])) $$ Hg
  iintro Hg
  iapply (wp_store 𝒱₀ (c : Thread nD τ) none Set.univ (m := gM) (r := ownRect c) (Mk := Finset.univ) (S := rowSet c)
    (by rw [View.setOn_univ, set_access_g])) $$ Hg
  iintro Hg
  ihave Hg := (Entails.of_eq (stored m c l f f a (by rw [ha]; exact congrArg (fun v => steps.foldl _ (extf .f32 v bitsLt_bf16_f32)) (read_off3 c (part m l c))))) $$ Hg
  ihave Hg := (Entails.of_eq (sumPts_deal c c (gather (part m l)))) $$ Hg
  -- the sums out
  iapply (wpc_then c _ _ _)
  iapply wp_wand_r
  isplitl [HO Hg Hin Ht1]
  · iapply (wp_seqs c (ctx m K) _ (fun ls => owing c (owedFrom c (l + 1) + owed (owesX c 1 l) ls)) (outSum m c l)
      (fun r => iprop(cred (tallyAt (cell c (snd 1 r)) l N) ∗ ifLast (F := F) l (anySlot (F := F) c (up c r)))) (step_sendSum m K c hl _))
    isplitr; · iexact HG
    isplitl [HO]; · iexact HO
    iapply (bigSepL_mono fun r _ => send_step m c l r)
    iapply (bigSepL_both _ _ _).2
    isplitl [Hg]; · iexact Hg
    iapply (bigSepL_both _ _ _).2
    isplitl [Hin] <;> iassumption
  iintro %u ⟨HO, Hc1⟩
  ihave HO := (Entails.of_eq (owing_nil c (owedFrom c (l + 1)) (owesX c 1 l))) $$ HO
  ihave Hc1 := (bigSepL_both _ _ _).1 $$ Hc1
  icases Hc1 with ⟨Hc1, Hlast⟩
  -- the sums in
  iapply (wpc_then c _ _ _)
  iapply wp_wand_r
  isplitl [HO Hd1]
  · iapply (wp_seqs c (ctx m K) _ (fun _ => owing c (owedFrom c (l + 1))) (fun k => due (F := F) c (rcv 1 k) l) (inSum m c l)
      (fun k _ => step_waitSum m K c hl _ (Above.mono (above_from c (l + 1) (by omega)) (by omega)) k))
    isplitr; · iexact HG
    isplitl [HO] <;> iassumption
  iintro %u ⟨HO, Hin⟩
  ihave Hin := (split2 (last_step m c l)) $$ Hin
  icases Hin with ⟨Hb1, Hin⟩
  ihave Hin := (Entails.of_eq (steps_rev (gained m c l))) $$ Hin
  ihave Hin := (gained_all m c l) $$ Hin
  icases Hin with ⟨Hgs, Hmore⟩
  -- the products gone
  iapply (wpc_then c _ _ _)
  iapply wp_wand_r
  isplitl [HO Ha0 Hc0]
  · iapply (wp_seqs c (ctx m K) _ (fun _ => owing c (owedFrom c (l + 1))) (fun k => due (F := F) c (snd 0 k) l) _
      (fun k _ => step_leftPart m K c hl _ (Above.mono (above_from c (l + 1) (by omega)) (by omega)) k))
    isplitr; · iexact HG
    isplitl [HO]; · iexact HO
    unfold due
    iapply (bigSepL_both _ _ _).2
    isplitl [Ha0] <;> iassumption
  iintro %u ⟨HO, Hin⟩
  ihave Hin := (bigSepL_both _ _ _).1 $$ Hin
  icases Hin with ⟨Ha0, Hps⟩
  -- the sums gone
  iapply wp_wand_r
  isplitl [HO Ha1 Hc1]
  · iapply (wp_seqs c (ctx m K) _ (fun _ => owing c (owedFrom c (l + 1))) (fun k => due (F := F) c (snd 1 k) l) _
      (fun k _ => step_leftSum m K c hl _ (Above.mono (above_from c (l + 1) (by omega)) (by omega)) k))
    isplitr; · iexact HG
    isplitl [HO]; · iexact HO
    unfold due
    iapply (bigSepL_both _ _ _).2
    isplitl [Ha1] <;> iassumption
  iintro %u ⟨HO, Hin⟩
  ihave Hin := (bigSepL_both _ _ _).1 $$ Hin
  icases Hin with ⟨Ha1, Hg⟩
  ihave Hg := (Entails.of_eq (sumPts_deal c c (gather (part m l))).symm) $$ Hg
  isplitl [HO]; · iexact HO
  isplitl [Hg Hgs]
  · iapply (Entails.of_eq (sumAll_eq c (gather (part m l))).symm)
    isplitl [Hg] <;> iassumption
  isplitl [Hp Hps]
  · iapply (Entails.of_eq (partAll_eq c (part m l c)).symm)
    isplitl [Hp]; · iapply (Entails.of_eq (partPts_eq c c (part m l c)).symm); iexact Hp
    iexact Hps
  unfold after
  isplitl [Hmore]; · iexact Hmore
  isplitl [Ha0 Ha1 Hb0 Hb1]
  · iapply (bigSepL_mono fun r _ => places_step (F := F) c (l + 1) r)
    iapply (bigSepL_both _ _ _).2
    isplitl [Ha0]; · iexact Ha0
    iapply (bigSepL_both _ _ _).2
    isplitl [Ha1]; · iexact Ha1
    iapply (bigSepL_both _ _ _).2
    isplitl [Hb0] <;> iassumption
  iexact Hlast

end

end Cert.Mlp
-- ==== Proof.Between.lean ====
/-
# Between the exchanges

What a device holds before the first exchange, between two and after the last, and the loads and stores of the products.
-/
module

public import proofs.«01_k».proof.Proof.Layer

@[expose] public section

noncomputable section

namespace Cert.Mlp

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × CIx → ℕ)

/-! ## A device's cells, by steps -/

def allCells : List CIx := bar :: (steps.map (snd 0) ++ (steps.map (snd 1) ++ (steps.map (rcv 0) ++ steps.map (rcv 1))))
theorem allCells_univ : Finset.univ = allCells.toFinset := by decide +kernel
theorem allCells_nodup : allCells.Nodup := by decide +kernel

/-- Something for each of a step's four cells. -/
def four (Φ : CIx → sProp 𝕄) (r : Fin 15) : sProp 𝕄 := iprop(Φ (snd 0 r) ∗ Φ (snd 1 r) ∗ Φ (rcv 0 r) ∗ Φ (rcv 1 r))

theorem cells_split (Φ : CIx → sProp 𝕄) : bigSep Finset.univ Φ ⊣⊢ iprop(Φ bar ∗ bigSepL steps (four Φ)) := by
  rw [bigSep_univ_eq_bigSepL allCells allCells_univ allCells_nodup Φ]
  unfold allCells
  rw [bigSepL_cons', bigSepL_append, bigSepL_append, bigSepL_append, bigSepL_map, bigSepL_map, bigSepL_map, bigSepL_map]
  unfold four
  constructor
  · iintro ⟨H, H0, H1, H2, H3⟩
    isplitl [H]; · iexact H
    iapply (bigSepL_both _ _ _).2
    isplitl [H0]; · iexact H0
    iapply (bigSepL_both _ _ _).2
    isplitl [H1]; · iexact H1
    iapply (bigSepL_both _ _ _).2
    isplitl [H2] <;> iassumption
  · iintro ⟨H, HL⟩
    ihave HL := (bigSepL_both _ _ _).1 $$ HL
    icases HL with ⟨H0, HL⟩
    ihave HL := (bigSepL_both _ _ _).1 $$ HL
    icases HL with ⟨H1, HL⟩
    ihave HL := (bigSepL_both _ _ _).1 $$ HL
    icases HL with ⟨H2, H3⟩
    isplitl [H]; · iexact H
    isplitl [H0]; · iexact H0
    isplitl [H1]; · iexact H1
    isplitl [H2] <;> iassumption

theorem bigSep_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  iintro ⟨#HR, H⟩
  ihave HR' := (BI.bigSep_of_persistent S R) $$ HR
  iapply (BIBase.Entails.trans (Entails.of_eq (bigSep_sep' S (fun _ => R) Φ).symm) (bigSep_mono fun i _ => h i))
  isplitl [HR']
  · iexact HR'
  iexact H

theorem bigSepL_with {I : Type} {R : sProp 𝕄} [BI.Persistent R] {Φ Ψ : I → sProp 𝕄}
    (h : ∀ i, iprop(R ∗ Φ i) ⊢ Ψ i) : ∀ l : List I, iprop(R ∗ bigSepL l Φ) ⊢ bigSepL l Ψ
  | [] => by
    rw [bigSepL_nil, bigSepL_nil]; iintro ⟨-, H⟩; iexact H
  | i :: l => by
    rw [bigSepL_cons', bigSepL_cons']
    iintro ⟨#HR, H, HL⟩
    isplitl [H]
    · iapply (h i); isplitr; · iexact HR
      iexact H
    · iapply (bigSepL_with h l); isplitr; · iexact HR
      iexact HL

/-! ## Before, between and after -/

section
variable (c : Dev nD)

theorem place_first (r : Fin 15) :
    iprop(ctx m K ∗ four (fun x => atPos ER (cell c x) 0 ∅ 0) r) ⊢ places (F := F) c 0 r := by
  unfold four places at_
  iintro ⟨#HG, H0, H1, H2, H3⟩
  isplitl [H0]
  · isplitl [H0]; · iexact H0
    iapply (ctx_reached m K c (snd 0 r)); iexact HG
  isplitl [H1]
  · isplitl [H1]; · iexact H1
    iapply (ctx_reached m K c (snd 1 r)); iexact HG
  isplitl [H2]
  · isplitl [H2]; · iexact H2
    iapply (ctx_reached m K c (rcv 0 r)); iexact HG
  isplitl [H3]; · iexact H3
  iapply (ctx_reached m K c (rcv 1 r)); iexact HG

theorem perm_first (r : Fin 15) : iprop(ctx m K ∗ anySlot (F := F) (up c r) c) ⊢ slotPerm (F := F) (up c r) c r 0 := by
  unfold slotPerm
  iintro ⟨#HG, H⟩
  isplitl [H]; · iexact H
  iapply (ctx_reached m K (up c r) (rcv 0 r)); iexact HG

theorem before_first :
    iprop(ctx m K ∗ (bigSepL steps fun d => anySlot (F := F) (up c d) c) ∗ bigSepL steps (four fun x => atPos ER (cell c x) 0 ∅ 0)
        ∗ bigSepL steps (means (F := F) c 0)) ⊢ before (F := F) c 0 := by
  unfold before
  iintro ⟨#HG, Hs, Ha, Hm⟩
  isplitl [Hs]
  · iapply (bigSepL_with (perm_first m K c)); isplitr; · iexact HG
    iexact Hs
  isplitl [Ha]
  · iapply (bigSepL_with (place_first m K c)); isplitr; · iexact HG
    iexact Ha
  iexact Hm

theorem before_next {l : ℕ} (hl : l < 2) :
    iprop(after (F := F) c l ∗ bigSepL steps (means (F := F) c (l + 1))) ⊢ before (F := F) c (l + 1) := by
  unfold before after
  iintro ⟨⟨Hs, Ha, -⟩, Hm⟩
  isplitl [Hs]
  · iapply (bigSepL_mono fun r _ => show ifMore (F := F) l (slotPerm (F := F) (up c r) c r (l + 1)) ⊢ slotPerm (F := F) (up c r) c r (l + 1) from
      Entails.of_eq (if_pos hl)); iexact Hs
  isplitl [Ha]; · iexact Ha
  iexact Hm

theorem after_last : after (F := F) c 2 ⊢ iprop(bigSepL steps (places (F := F) c 3) ∗ bigSepL steps fun r => anySlot (F := F) c (up c r)) := by
  unfold after
  iintro ⟨-, Ha, Hs⟩
  isplitl [Ha]; · iexact Ha
  iapply (bigSepL_mono fun r _ => show ifLast (F := F) 2 (anySlot (F := F) c (up c r)) ⊢ anySlot (F := F) c (up c r) from
      Entails.of_eq (if_neg (by decide))); iexact Hs

/-- The round a cell is at when all is done. -/
def lastRound (x : CIx) : ℕ := x.elim 1 fun _ => 3

theorem no_duties (x : CIx) : ∀ r, lastRound x ≤ r → (rd m).duties (cell c x) r = ∅ := by
  cases x with
  | none => exact duties_bar_later m c
  | some x => exact duties_x_later m c x

theorem close_cell (x : CIx) :
    iprop(ctx m K ∗ atPos ER (cell c x) (lastRound x) ∅ 0) ⊢ |={Set.univ}=> (semVal (cell c x) 0 : sProp 𝕄) := by
  iintro ⟨#HG, H⟩
  imod (Rounds.cell_close ER (rd m) (Set.mem_univ (K (c, x))) (fun h => h) (R := lastRound x) (no_duties m c x)) $$ [H] with H
  · isplitr; · iapply (ctx_inv m K c x); iexact HG
    iexact H
  imodintro; iexact H

theorem places_last (r : Fin 15) : places (F := F) c 3 r ⊢ four (fun x => (atPos ER (cell c x) (lastRound x) ∅ 0 : sProp 𝕄)) r := by
  unfold places four at_
  iintro ⟨⟨H0, -⟩, ⟨H1, -⟩, ⟨H2, -⟩, H3, -⟩
  isplitl [H0]; · iexact H0
  isplitl [H1]; · iexact H1
  isplitl [H2]; · iexact H2
  iexact H3

theorem close_all :
    iprop(ctx m K ∗ atPos ER (cell c bar) 1 ∅ 0 ∗ bigSepL steps (places (F := F) c 3))
      ⊢ |={Set.univ}=> bigSep Finset.univ fun x : CIx => (semVal (cell c x) 0 : sProp 𝕄) := by
  refine BIBase.Entails.trans ?_ ((bigSep_with (R := ctx m K) (close_cell m K c)).trans (bigSep_fupd _ _))
  iintro ⟨#HG, Hb, Hp⟩
  isplitr; · iexact HG
  iapply (cells_split _).2
  isplitl [Hb]; · iexact Hb
  iapply (bigSepL_mono fun r _ => places_last (F := F) c r); iexact Hp

/-! ## The products and the result -/

theorem hz : (![0, 0] : Fin 2 → Nat) = fun _ => 0 := funext fun a => by fin_cases a <;> rfl

abbrev r256 : Rect S256x256 := Rect.unit (s := S256x256) ![0, 0] S256x256.size inb_S256x256_S256x256_0_0
abbrev rWi : Rect S256x512 := Rect.unit (s := S256x512) ![0, 0] S256x512.size inb_S256x512_S256x512_0_0
abbrev rWo : Rect S512x256 := Rect.unit (s := S512x256) ![0, 0] S512x256.size inb_S512x256_S512x256_0_0

theorem read_x (f : S256x256.Idx → Elt F .f32) : xM.view.readAt (Elt F) r256.toLoadRect f = f :=
  Memref.readAt_unit_zero (Elt F) cc0_stg0_0 hz _ f
theorem read_g (f : S256x256.Idx → Elt F .bf16) : gM.view.readAt (Elt F) r256.toLoadRect f = f :=
  Memref.readAt_unit_zero (Elt F) cc0_scratch2 hz _ f
theorem write_p (f w : S256x256.Idx → Elt F .bf16) : (pM.access r256 : View sig .tc _ _ _).write (Elt F) f w Finset.univ = w :=
  Memref.write_access_unit_zero_univ (Elt F) cc0_scratch0 hz _ f w
theorem write_y (f w : S256x256.Idx → Elt F .f32) : (yM.access r256 : View sig .tc _ _ _).write (Elt F) f w Finset.univ = w :=
  Memref.write_access_unit_zero_univ (Elt F) cc0_stg7_0 hz _ f w

theorem step_put (v : FVec F S256x256 .bf16) :
    (iprop(∃ f, partAll (F := F) c f)) ⊢ wpc c (putPart pM (Memref.isWhole_whole _) v) fun _ => partAll c v := by
  unfold putPart
  simp only [Prog.lift]
  iintro ⟨%f, Hp⟩
  iapply (wp_load 𝒱₀ (c : Thread nD τ) none Set.univ (m := pM) (Finset.subset_univ _)) $$ Hp; iintro Hp
  iapply (wp_store 𝒱₀ (c : Thread nD τ) none Set.univ (m := pM) (r := r256) (Mk := Finset.univ) (Finset.subset_univ _)) $$ Hp; iintro Hp
  rw [write_p, wp_ret]; imodintro
  iexact Hp

theorem step_weights {wi : Memref sig .tc .vmem S256x512 .f32} {wo : Memref sig .tc .vmem S512x256 .f32}
    (fi : Buf (Elt F) (wi.view.loc (c : Thread nD τ))) (fo : Buf (Elt F) (wo.view.loc (c : Thread nD τ)))
    {vi : Vec F S256x512 .f32} {vo : Vec F S512x256 .f32}
    (hi : wi.view.readAt (Elt F) rWi.toLoadRect fi = vi) (ho : wo.view.readAt (Elt F) rWo.toLoadRect fo = vo)
    (k : Vec F S256x512 .f32 → Vec F S512x256 .f32 → KProg F PUnit) (P R : sProp 𝕄) (h : P ⊢ wpc c (k vi vo) fun _ => R) :
    iprop(P ∗ (wi.view.loc (c : Thread nD τ) ↦{fullShare} fi) ∗ (wo.view.loc (c : Thread nD τ) ↦{fullShare} fo))
      ⊢ wpc c (weights wi wo k) fun _ => iprop(R ∗ (wi.view.loc (c : Thread nD τ) ↦{fullShare} fi) ∗ (wo.view.loc (c : Thread nD τ) ↦{fullShare} fo)) := by
  subst hi ho
  unfold weights
  iintro ⟨HP, Hi, Ho⟩
  iapply (wp_load 𝒱₀ (c : Thread nD τ) none Set.univ (m := wi) (Finset.subset_univ _)) $$ Hi; iintro Hi
  iapply (wp_load 𝒱₀ (c : Thread nD τ) none Set.univ (m := wo) (Finset.subset_univ _)) $$ Ho; iintro Ho
  iapply wp_wand_r
  isplitl [HP]
  · iapply h; iexact HP
  iintro %u HR
  isplitl [HR]; · iexact HR
  isplitl [Hi] <;> iassumption

theorem step_gathered {α : Type} (f : S256x256.Idx → Elt F .bf16) (k : Vec F S256x256 .bf16 → KProg F α) (P : sProp 𝕄) (R : α → sProp 𝕄)
    (h : P ⊢ wpc c (k f) R) :
    iprop(sumAll (F := F) c f ∗ P) ⊢ wpc c (gathered gM k) fun a => iprop(sumAll (F := F) c f ∗ R a) := by
  unfold gathered
  iintro ⟨Hg, HP⟩
  iapply (wp_load 𝒱₀ (c : Thread nD τ) none Set.univ (m := gM) (Finset.subset_univ _)) $$ Hg; iintro Hg
  rw [read_g]
  iapply wp_wand_r
  isplitl [HP]
  · iapply h; iexact HP
  iintro %a HR
  isplitl [Hg] <;> iassumption

/-- A later layer's product. -/
theorem step_later {wi : Memref sig .tc .vmem S256x512 .f32} {wo : Memref sig .tc .vmem S512x256 .f32}
    (fi : Buf (Elt F) (wi.view.loc (c : Thread nD τ))) (fo : Buf (Elt F) (wo.view.loc (c : Thread nD τ))) (l : ℕ)
    (hi : wi.view.readAt (Elt F) rWi.toLoadRect fi = wIn m c (l + 1)) (ho : wo.view.readAt (Elt F) rWo.toLoadRect fo = wOut m c (l + 1)) :
    iprop(sumAll (F := F) c (gather (part m l)) ∗ (∃ f, partAll (F := F) c f)
        ∗ (wi.view.loc (c : Thread nD τ) ↦{fullShare} fi) ∗ (wo.view.loc (c : Thread nD τ) ↦{fullShare} fo))
      ⊢ wpc c (later pM (Memref.isWhole_whole _) gM wi wo) fun _ => iprop(sumAll (F := F) c (gather (part m l)) ∗ partAll c (part m (l + 1) c)
        ∗ (wi.view.loc (c : Thread nD τ) ↦{fullShare} fi) ∗ (wo.view.loc (c : Thread nD τ) ↦{fullShare} fo)) :=
  step_gathered c (gather (part m l)) _ _ _ (step_weights c fi fo hi ho _ _ _ (step_put c _))

/-- The first layer's product. -/
theorem step_first {wi : Memref sig .tc .vmem S256x512 .f32} {wo : Memref sig .tc .vmem S512x256 .f32}
    (fi : Buf (Elt F) (wi.view.loc (c : Thread nD τ))) (fo : Buf (Elt F) (wo.view.loc (c : Thread nD τ)))
    (hi : wi.view.readAt (Elt F) rWi.toLoadRect fi = wIn m c 0) (ho : wo.view.readAt (Elt F) rWo.toLoadRect fo = wOut m c 0) :
    iprop((((c : Thread nD τ).loc cc0_stg0_0) ↦{fullShare} xIn m c) ∗ (∃ f, partAll (F := F) c f)
        ∗ (wi.view.loc (c : Thread nD τ) ↦{fullShare} fi) ∗ (wo.view.loc (c : Thread nD τ) ↦{fullShare} fo))
      ⊢ wpc c (first xM wi wo pM (Memref.isWhole_whole _)) fun _ => iprop((((c : Thread nD τ).loc cc0_stg0_0) ↦{fullShare} xIn m c) ∗ partAll c (part m 0 c)
        ∗ (wi.view.loc (c : Thread nD τ) ↦{fullShare} fi) ∗ (wo.view.loc (c : Thread nD τ) ↦{fullShare} fo)) := by
  unfold first
  iintro ⟨Hx, HP⟩
  iapply (wp_load 𝒱₀ (c : Thread nD τ) none Set.univ (m := xM) (Finset.subset_univ _)) $$ Hx; iintro Hx
  rw [read_x]
  iapply wp_wand_r
  isplitl [HP]
  · iapply (step_weights c fi fo hi ho _ _ _ (step_put c _)); iexact HP
  iintro %a HR
  isplitl [Hx]; · iexact Hx
  iexact HR

/-- The result. -/
theorem step_result (g : S256x256.Idx → Elt F .f32) :
    iprop(sumAll (F := F) c (gather (part m 2)) ∗ (((c : Thread nD τ).loc cc0_stg7_0) ↦{fullShare} g))
      ⊢ wpc c (result yM gM) fun _ => iprop(sumAll (F := F) c (gather (part m 2)) ∗ (((c : Thread nD τ).loc cc0_stg7_0) ↦{fullShare} outVal m)) := by
  refine step_gathered c (gather (part m 2)) _ _ _ ?_
  simp only [Prog.lift]
  iintro Hy
  iapply (wp_load 𝒱₀ (c : Thread nD τ) none Set.univ (m := yM) (Finset.subset_univ _)) $$ Hy; iintro Hy
  iapply (wp_store 𝒱₀ (c : Thread nD τ) none Set.univ (m := yM) (r := r256) (Mk := Finset.univ) (Finset.subset_univ _)) $$ Hy; iintro Hy
  rw [write_y, wp_ret]; imodintro
  iexact Hy

end

end Cert.Mlp
-- ==== Proof.Body.lean ====
/-
# The kernel's body

What every window's buffers hold, what a device starts and ends the kernel with, and the body run from the one to the other.
-/
module

public import proofs.«01_k».proof.Proof.Between
public import proofs.«01_k».proof.Proof.Gen.KernelIdeal.Points

@[expose] public section

noncomputable section

namespace Cert.Mlp

open Cert.KernelIdeal Cert.KernelIdeal.Gen
open Idealize.ShloMosaic
open Idealize.ShloMosaic.TcCoe
open Idealize.ShloMosaic.ValueIdx
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- The state the program starts in. -/
def s₀ : MemSt nD τ sig (Elt F) := ⟨m, fun _ => 0, ρ⟩

/-! ## The data -/

/-- The tokens of the barrier signals device `c` sends. -/
def hellos (c : Dev nD) : sProp 𝕄 := bigSepL steps fun r => dutyTok ER (cell (up c r) bar) 0 (rev r)

/-- What a device starts with, at the invariants' names. -/
def begun (K : Dev nD × CIx → ℕ) (c : Dev nD) : sProp 𝕄 :=
  iprop(ctx m K ∗ (bigSep Finset.univ fun x : CIx => atPos ER (cell c x) 0 ∅ 0) ∗ cred (tallyAt (cell c bar) 0 15) ∗ hellos (F := F) c
    ∗ bigSepL steps (means (F := F) c 0) ∗ bigSepL steps (means (F := F) c 1) ∗ bigSepL steps (means (F := F) c 2))

/-- The scratch buffers, whatever they hold. -/
def scratch (c : Dev nD) : sProp 𝕄 := iprop((∃ f, partAll (F := F) c f) ∗ (∃ f, slotAll (F := F) c f) ∗ ∃ f, sumAll (F := F) c f)

def start (c : Dev nD) : sProp 𝕄 := iprop(∃ K, begun m K c)
def Φ₀ (c : Dev nD) : sProp 𝕄 := iprop(start m c ∗ scratch (F := F) c)
/-- At the end every cell is closed, its counter at zero. -/
def Φ₁ (c : Dev nD) : sProp 𝕄 := iprop(scratch (F := F) c ∗ bigSep Finset.univ fun x : CIx => semVal (cell c x) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m c
    | ⟨1, _⟩ => wIn m c 0
    | ⟨2, _⟩ => wOut m c 0
    | ⟨3, _⟩ => wIn m c 1
    | ⟨4, _⟩ => wOut m c 1
    | ⟨5, _⟩ => wIn m c 2
    | ⟨6, _⟩ => wOut m c 2
    | ⟨7, _⟩ => outVal m
  Φ t := match t with
    | ⟨0, _⟩ => Φ₀ m c
    | ⟨_ + 1, _⟩ => Φ₁ (F := F) c
  q _ := fullShare
  owed t := match t with
    | ⟨0, _⟩ => owedAll c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body -/

/-- The windows' buffers, the operands fetched. -/
def staged (c : Dev nD) (y : S256x256.Idx → Elt F .f32) : sProp 𝕄 :=
  iprop((((c : Thread nD τ).loc cc0_stg0_0) ↦{fullShare} xIn m c)
    ∗ ((((c : Thread nD τ).loc cc0_stg1_0) ↦{fullShare} wIn m c 0) ∗ (((c : Thread nD τ).loc cc0_stg2_0) ↦{fullShare} wOut m c 0))
    ∗ ((((c : Thread nD τ).loc cc0_stg3_0) ↦{fullShare} wIn m c 1) ∗ (((c : Thread nD τ).loc cc0_stg4_0) ↦{fullShare} wOut m c 1))
    ∗ ((((c : Thread nD τ).loc cc0_stg5_0) ↦{fullShare} wIn m c 2) ∗ (((c : Thread nD τ).loc cc0_stg6_0) ↦{fullShare} wOut m c 2))
    ∗ (((c : Thread nD τ).loc cc0_stg7_0) ↦{fullShare} y))

/-- The body on the kernel's buffers. -/
abbrev theBody : KProg F PUnit :=
  body (Memref.whole cc0_stg0_0) (Memref.whole cc0_stg1_0) (Memref.whole cc0_stg2_0) (Memref.whole cc0_stg3_0) (Memref.whole cc0_stg4_0)
    (Memref.whole cc0_stg5_0) (Memref.whole cc0_stg6_0) (Memref.whole cc0_stg7_0) pM (Memref.isWhole_whole _) sM (Memref.isWhole_whole _)
    gM (Memref.isWhole_whole _) cc0_scratch3 cc0_scratch4

theorem slots_out (c : Dev nD) :
    iprop((∃ f, slotAll (F := F) c f) ∗ hellos (F := F) c)
      ⊢ iprop(anySlot (F := F) c c ∗ bigSepL steps fun r => iprop(anySlot (F := F) c (up c r) ∗ dutyTok ER (cell (up c r) bar) 0 (rev r))) := by
  unfold hellos
  iintro ⟨⟨%f, Hs⟩, Ht⟩
  ihave Hs := (Entails.of_eq (slotAll_eq c f)) $$ Hs
  icases Hs with ⟨Hs, Hss⟩
  isplitl [Hs]; · iexists f; iexact Hs
  iapply (bigSepL_both _ _ _).2
  isplitl [Hss]
  · iapply (bigSepL_mono (Ψ := fun r => anySlot (F := F) c (up c r)) fun r _ => exists_intro (Φ := fun f => slotPts (F := F) c (up c r) f) f)
    iexact Hss
  iexact Ht

set_option maxHeartbeats 1600000 in
theorem sound_body (K : Dev nD × CIx → ℕ) (c : Dev nD) (y : S256x256.Idx → Elt F .f32) :
    iprop(begun m K c ∗ scratch (F := F) c ∗ owing c (owedAll c) ∗ staged m c y)
      ⊢ wpc c (theBody (F := F)) fun _ => iprop(Φ₁ (F := F) c ∗ owing c (owedFrom c 3) ∗ staged m c (outVal m)) := by
  unfold theBody body begun scratch staged
  simp only [wp_deviceId]
  iintro ⟨⟨#HG, Hat, Hcb, Hh, Hm0, Hm1, Hm2⟩, ⟨Hp, Hs, Hg⟩, HO, Hx, ⟨Hw0, Hv0⟩, ⟨Hw1, Hv1⟩, ⟨Hw2, Hv2⟩, Hy⟩
  ihave Hat := (cells_split _).1 $$ Hat
  icases Hat with ⟨Hab, Hat⟩
  ihave Hs := (slots_out (F := F) c) $$ [Hs Hh]
  · isplitl [Hs] <;> iassumption
  icases Hs with ⟨Hs, Hss⟩
  -- every peer told
  iapply (wpc_then c _ _ _)
  iapply wp_wand_r
  isplitl [HO Hss]
  · iapply (wp_seqs c (ctx m K) _ (fun ls => owing c (owedFrom c 0 + owed (owesBar c) ls)) _ (fun _ => iprop(emp)) (step_hello m K c (owedFrom c 0)))
    isplitr; · iexact HG
    isplitl [HO]; · iexact HO
    iexact Hss
  iintro %u ⟨HO, -⟩
  ihave HO := (Entails.of_eq (owing_nil c (owedFrom c 0) (owesBar c))) $$ HO
  -- the first product
  iapply (wpc_then c _ _ _)
  iapply wp_wand_r
  isplitl [Hx Hp Hw0 Hv0]
  · iapply (step_first m c (wi := Memref.whole cc0_stg1_0) (wo := Memref.whole cc0_stg2_0) (wIn m c 0) (wOut m c 0)
      (Memref.readAt_unit_zero (Elt F) cc0_stg1_0 hz _ _) (Memref.readAt_unit_zero (Elt F) cc0_stg2_0 hz _ _))
    isplitl [Hx]; · iexact Hx
    isplitl [Hp]; · iexact Hp
    isplitl [Hw0] <;> iassumption
  iintro %u ⟨Hx, Hp, Hw0, Hv0⟩
  -- every peer heard
  iapply (wpc_then c _ _ _)
  iapply wp_wand_r
  isplitl [HO Hab Hcb]
  · iapply (step_bar m K c (owedFrom c 0) (above_from c 0 (by omega)))
    isplitr; · iexact HG
    isplitl [HO]; · iexact HO
    isplitl [Hab] <;> iassumption
  iintro %u ⟨HO, Hab, Hss⟩
  ihave Hb := (before_first m K c) $$ [Hss Hat Hm0]
  · isplitr; · iexact HG
    isplitl [Hss]; · iexact Hss
    isplitl [Hat] <;> iassumption
  -- layer 0
  iapply (wpc_then c _ _ _)
  iapply wp_wand_r
  isplitl [HO Hg Hp Hb]
  · iapply (layer m K c (l := 0) (by omega))
    isplitr; · iexact HG
    isplitl [HO]; · iexact HO
    isplitl [Hg]; · iexact Hg
    isplitl [Hp] <;> iassumption
  iintro %u ⟨HO, Hg, Hp, Hb⟩
  ihave Hb := (before_next (F := F) c (l := 0) (by omega)) $$ [Hb Hm1]
  · isplitl [Hb] <;> iassumption
  -- layer 1
  iapply (wpc_then c _ _ _)
  iapply wp_wand_r
  isplitl [Hg Hp Hw1 Hv1]
  · iapply (step_later m c (wi := Memref.whole cc0_stg3_0) (wo := Memref.whole cc0_stg4_0) (wIn m c 1) (wOut m c 1) 0
      (Memref.readAt_unit_zero (Elt F) cc0_stg3_0 hz _ _) (Memref.readAt_unit_zero (Elt F) cc0_stg4_0 hz _ _))
    isplitl [Hg]; · iexact Hg
    isplitl [Hp]; · iexists _; iexact Hp
    isplitl [Hw1] <;> iassumption
  iintro %u ⟨Hg, Hp, Hw1, Hv1⟩
  iapply (wpc_then c _ _ _)
  iapply wp_wand_r
  isplitl [HO Hg Hp Hb]
  · iapply (layer m K c (l := 1) (by omega))
    isplitr; · iexact HG
    isplitl [HO]; · iexact HO
    isplitl [Hg]; · iexists _; iexact Hg
    isplitl [Hp] <;> iassumption
  iintro %u ⟨HO, Hg, Hp, Hb⟩
  ihave Hb := (before_next (F := F) c (l := 1) (by omega)) $$ [Hb Hm2]
  · isplitl [Hb] <;> iassumption
  -- layer 2
  iapply (wpc_then c _ _ _)
  iapply wp_wand_r
  isplitl [Hg Hp Hw2 Hv2]
  · iapply (step_later m c (wi := Memref.whole cc0_stg5_0) (wo := Memref.whole cc0_stg6_0) (wIn m c 2) (wOut m c 2) 1
      (Memref.readAt_unit_zero (Elt F) cc0_stg5_0 hz _ _) (Memref.readAt_unit_zero (Elt F) cc0_stg6_0 hz _ _))
    isplitl [Hg]; · iexact Hg
    isplitl [Hp]; · iexists _; iexact Hp
    isplitl [Hw2] <;> iassumption
  iintro %u ⟨Hg, Hp, Hw2, Hv2⟩
  iapply (wpc_then c _ _ _)
  iapply wp_wand_r
  isplitl [HO Hg Hp Hb]
  · iapply (layer m K c (l := 2) (by omega))
    isplitr; · iexact HG
    isplitl [HO]; · iexact HO
    isplitl [Hg]; · iexists _; iexact Hg
    isplitl [Hp] <;> iassumption
  iintro %u ⟨HO, Hg, Hp, Hb⟩
  ihave Hb := (after_last (F := F) c) $$ Hb
  icases Hb with ⟨Hat, Hss⟩
  ihave Hs := (slotAll_join (F := F) c) $$ [Hs Hss]
  · isplitl [Hs] <;> iassumption
  imod (close_all m K c) $$ [Hab Hat] with Hz
  · isplitr; · iexact HG
    isplitl [Hab] <;> iassumption
  -- the result
  iapply wp_wand_r
  isplitl [Hg Hy]
  · iapply (step_result m c y)
    isplitl [Hg] <;> iassumption
  iintro %u ⟨Hg, Hy⟩
  unfold Φ₁ scratch
  isplitl [Hz Hs Hg Hp]
  · isplitl [Hs Hg Hp]
    · isplitl [Hp]; · iexists _; iexact Hp
      isplitl [Hs]; · iexact Hs
      iexists _; iexact Hg
    iexact Hz
  isplitl [HO]; · iexact HO
  isplitl [Hx]; · iexact Hx
  isplitl [Hw0 Hv0]; · isplitl [Hw0] <;> iassumption
  isplitl [Hw1 Hv1]; · isplitl [Hw1] <;> iassumption
  isplitl [Hw2 Hv2]; · isplitl [Hw2] <;> iassumption
  iexact Hy

/-! ## The obligation -/

abbrev t₀ : Fin cfg0.N := t0_0

theorem bigSep_W (Φ : Fin cfg0.W → sProp 𝕄) : bigSep Finset.univ Φ = iprop(Φ (0 : Fin 8) ∗ Φ (1 : Fin 8) ∗ Φ (2 : Fin 8) ∗ Φ (3 : Fin 8)
    ∗ Φ (4 : Fin 8) ∗ Φ (5 : Fin 8) ∗ Φ (6 : Fin 8) ∗ Φ (7 : Fin 8)) := bigSep_W0 Φ

set_option maxRecDepth 4000 in
def bodyPre (c : Dev nD) : sProp 𝕄 :=
  iprop(Φ₀ m c ∗ (dats m ρ 0 c).owesAt 0 t₀.castSucc
    ∗ (∃ d, stg c cc0_stg0_0 ((dats m ρ 0 c).before (0 : Fin 8) t₀ d)) ∗ (∃ d, stg c cc0_stg1_0 ((dats m ρ 0 c).before (1 : Fin 8) t₀ d))
    ∗ (∃ d, stg c cc0_stg2_0 ((dats m ρ 0 c).before (2 : Fin 8) t₀ d)) ∗ (∃ d, stg c cc0_stg3_0 ((dats m ρ 0 c).before (3 : Fin 8) t₀ d))
    ∗ (∃ d, stg c cc0_stg4_0 ((dats m ρ 0 c).before (4 : Fin 8) t₀ d)) ∗ (∃ d, stg c cc0_stg5_0 ((dats m ρ 0 c).before (5 : Fin 8) t₀ d))
    ∗ (∃ d, stg c cc0_stg6_0 ((dats m ρ 0 c).before (6 : Fin 8) t₀ d)) ∗ (∃ d, stg c cc0_stg7_0 ((dats m ρ 0 c).before (7 : Fin 8) t₀ d)))

set_option maxRecDepth 4000 in
def bodyPost (c : Dev nD) : sProp 𝕄 :=
  iprop(Φ₁ (F := F) c ∗ (dats m ρ 0 c).owesAt 0 t₀.succ
    ∗ stg c cc0_stg0_0 (xIn m c) ∗ stg c cc0_stg1_0 (wIn m c 0) ∗ stg c cc0_stg2_0 (wOut m c 0) ∗ stg c cc0_stg3_0 (wIn m c 1)
    ∗ stg c cc0_stg4_0 (wOut m c 1) ∗ stg c cc0_stg5_0 (wIn m c 2) ∗ stg c cc0_stg6_0 (wOut m c 2) ∗ stg c cc0_stg7_0 (outVal m))

theorem stg_in (c : Dev nD) (b : Ref sig .tc) (X : b.ty.Contents (Elt F)) {D : Type} (f : D → b.ty.Contents (Elt F)) (h : ∀ d, f d = X) :
    (iprop(∃ d, stg c b (f d)) : sProp 𝕄) ⊢ (((c : Thread nD τ).loc b) ↦{fullShare} X) := by
  iintro ⟨%d, %g, %hg, H⟩
  rw [h d] at hg; subst hg
  iexact H

theorem stg_out (c : Dev nD) (b : Ref sig .tc) (X : b.ty.Contents (Elt F)) :
    ((((c : Thread nD τ).loc b) ↦{fullShare} X) : sProp 𝕄) ⊢ stg c b X := by
  iintro H
  iexists X; isplitr; · (ipureintro; rfl)
  iexact H

set_option maxRecDepth 4000 in
theorem pre_intro (c : Dev nD) : bodyPre m ρ c ⊢ iprop(∃ K y, begun m K c ∗ scratch (F := F) c ∗ owing c (owedAll c) ∗ staged m c y) := by
  unfold bodyPre Φ₀ start staged Dat.owesAt Pipeline.owesWithin
  iintro ⟨⟨⟨%K, Hst⟩, Hsc⟩, ⟨%W, %hW, HO⟩, H0, H1, H2, H3, H4, H5, H6, ⟨%d, %y, %hy, H7⟩⟩
  iexists K; iexists y
  isplitl [Hst]; · iexact Hst
  isplitl [Hsc]; · iexact Hsc
  isplitl [HO]; · unfold owing; iexists W; iexact HO
  isplitl [H0]; · iapply (stg_in c cc0_stg0_0 (xIn m c) _ fun d => if_pos (fetch0_0 t₀)); iexact H0
  isplitl [H1 H2]
  · isplitl [H1]; · iapply (stg_in c cc0_stg1_0 (wIn m c 0) _ fun d => if_pos (fetch0_1 t₀)); iexact H1
    iapply (stg_in c cc0_stg2_0 (wOut m c 0) _ fun d => if_pos (fetch0_2 t₀)); iexact H2
  isplitl [H3 H4]
  · isplitl [H3]; · iapply (stg_in c cc0_stg3_0 (wIn m c 1) _ fun d => if_pos (fetch0_3 t₀)); iexact H3
    iapply (stg_in c cc0_stg4_0 (wOut m c 1) _ fun d => if_pos (fetch0_4 t₀)); iexact H4
  isplitl [H5 H6]
  · isplitl [H5]; · iapply (stg_in c cc0_stg5_0 (wIn m c 2) _ fun d => if_pos (fetch0_5 t₀)); iexact H5
    iapply (stg_in c cc0_stg6_0 (wOut m c 2) _ fun d => if_pos (fetch0_6 t₀)); iexact H6
  iexact H7

set_option maxRecDepth 4000 in
theorem post_intro (c : Dev nD) : iprop(Φ₁ (F := F) c ∗ owing c (owedFrom c 3) ∗ staged m c (outVal m)) ⊢ bodyPost m ρ c := by
  unfold bodyPost staged owing Dat.owesAt Pipeline.owesWithin
  iintro ⟨HΦ, ⟨%W, HO⟩, H0, ⟨H1, H2⟩, ⟨H3, H4⟩, ⟨H5, H6⟩, H7⟩
  isplitl [HΦ]; · iexact HΦ
  isplitl [HO]
  · iexists W
    isplitr; · ipureintro; exact fun _ _ => Or.inl trivial
    iexact HO
  isplitl [H0]; · iapply (stg_out c cc0_stg0_0); iexact H0
  isplitl [H1]; · iapply (stg_out c cc0_stg1_0); iexact H1
  isplitl [H2]; · iapply (stg_out c cc0_stg2_0); iexact H2
  isplitl [H3]; · iapply (stg_out c cc0_stg3_0); iexact H3
  isplitl [H4]; · iapply (stg_out c cc0_stg4_0); iexact H4
  isplitl [H5]; · iapply (stg_out c cc0_stg5_0); iexact H5
  isplitl [H6]; · iapply (stg_out c cc0_stg6_0); iexact H6
  iapply (stg_out c cc0_stg7_0); iexact H7

set_option maxRecDepth 65536 in
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) (Memref.whole cc0_stg7_0) (Memref.isWhole_whole _)
      pM (Memref.isWhole_whole _) sM (Memref.isWhole_whole _) gM (Memref.isWhole_whole _) cc0_scratch3 cc0_scratch4) (fun _ => bodyPost m ρ c)
  rw [body_eq]
  iintro H
  ihave H := (pre_intro m ρ c) $$ H
  icases H with ⟨%K, %y, H⟩
  iapply wp_wand_r
  isplitl [H]
  · iapply (sound_body m K c y); iexact H
  iintro %u H
  iapply (post_intro m ρ c); iexact H

end Cert.Mlp
-- ==== Proof.Deal.lean ====
/-
# What the launch deals

The ghost state every device gets: its cells' positions, the tokens of the signals and transfers it makes, the credit of those
it waits for.
-/
module

public import proofs.«01_k».proof.Proof.Body

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## Index sets -/

abbrev XIx : Type := Bool × Fin 2 × Fin 15

theorem steps_univ : (Finset.univ : Finset (Fin 15)) = steps.toFinset := by decide +kernel
theorem steps_nodup : steps.Nodup := by decide +kernel
theorem bigSep_steps (Φ : Fin 15 → sProp 𝕄) : bigSep Finset.univ Φ = bigSepL steps Φ := bigSep_univ_eq_bigSepL steps steps_univ steps_nodup Φ

theorem bigSep_x (Φ : XIx → sProp 𝕄) : bigSep Finset.univ Φ
    = iprop(((bigSepL steps fun r => Φ (false, 0, r)) ∗ bigSepL steps fun r => Φ (false, 1, r))
        ∗ ((bigSepL steps fun r => Φ (true, 0, r)) ∗ bigSepL steps fun r => Φ (true, 1, r))) := by
  have h2 (b : Bool) : (bigSep Finset.univ fun y : Fin 2 × Fin 15 => Φ (b, y))
      = iprop((bigSepL steps fun r => Φ (b, 0, r)) ∗ bigSepL steps fun r => Φ (b, 1, r)) := by
    rw [bigSep_univ_prod, bigSep_univ_eq_bigSepL [0, 1] (by decide) (by decide), ← bigSep_steps, ← bigSep_steps]; rfl
  rw [bigSep_univ_prod, bigSep_univ_eq_bigSepL [false, true] (by decide) (by decide), ← h2, ← h2]; rfl

theorem bigSep_cix (Φ : CIx → sProp 𝕄) : bigSep Finset.univ Φ = iprop(Φ bar ∗ bigSep Finset.univ fun x : XIx => Φ (some x)) := by
  rw [bigSep_univ_at Φ bar, show (Finset.univ.erase bar : Finset CIx) = (Finset.univ : Finset XIx).map Function.Embedding.some from by
    ext x; cases x <;> simp, bigSep_map]; rfl

/-- What every device has for its step `r`, counted at the device that step reaches. -/
def aroundEquiv : Dev nD × Fin 15 ≃ Dev nD × Fin 15 where
  toFun p := (up p.1 p.2, p.2)
  invFun p := (dn p.1 p.2, p.2)
  left_inv p := by dsimp only; rw [dn_up]
  right_inv p := by dsimp only; rw [up_dn]

theorem around (Φ : Dev nD → Fin 15 → sProp 𝕄) :
    (bigSep Finset.univ fun c : Dev nD => bigSepL steps (Φ c)) = bigSep Finset.univ fun c : Dev nD => bigSepL steps fun r => Φ (up c r) r := by
  simp only [← bigSep_steps]
  rw [← bigSep_univ_prod (fun p : Dev nD × Fin 15 => Φ p.1 p.2), ← bigSep_univ_prod (fun p : Dev nD × Fin 15 => Φ (up p.1 p.2) p.2)]
  exact bigSep_univ_equiv aroundEquiv _

/-! ## Tokens -/

theorem cell_inj {c c' : Dev nD} {x x' : CIx} (h : cell c x = cell c' x') : c = c' ∧ x = x' :=
  ⟨congrArg (fun g : GSem nD τ sig => g.1.1) h, csem_inj (congrArg Prod.snd h)⟩

def cells : Finset (GSem nD τ sig) :=
  Finset.univ.map ⟨fun p : Dev nD × CIx => cell p.1 p.2, fun p p' h => Prod.ext (cell_inj h).1 (cell_inj h).2⟩

/-- The duties of a device's own cells: its barrier's fifteen, and one of each transfer cell in each layer. -/
abbrev Duty : Type := Fin 15 ⊕ (Fin 3 × XIx)
def tokOf (p : Dev nD × Duty) : GSem nD τ sig × ℕ × Fin 15 :=
  match p.2 with
  | .inl d => (cell p.1 bar, 0, d)
  | .inr y => (cell p.1 (some y.2), y.1.val, 0)

theorem tokOf_inj : Function.Injective tokOf := by
  rintro ⟨c, d⟩ ⟨c', d'⟩ h
  rcases d with d | ⟨l, x⟩ <;> rcases d' with d' | ⟨l', x'⟩ <;>
    (have h1 := cell_inj (congrArg Prod.fst h)
     obtain ⟨h1, h2⟩ := h1
     subst h1)
  · have h3 : d = d' := congrArg (fun q => q.2.2) h
    subst h3; rfl
  · cases h2
  · cases h2
  · have h3 : l = l' := Fin.ext (congrArg (fun q => q.2.1) h)
    cases h2; subst h3; rfl

def tokens : Finset (GSem nD τ sig × ℕ × Fin 15) := Finset.univ.map ⟨tokOf, tokOf_inj⟩

/-- The tokens of device `c`'s own transfer cells in layer `l`. -/
def layToks (c : Dev nD) (l : ℕ) : sProp 𝕄 :=
  iprop(((bigSepL steps fun r => dutyTok ER (cell c (snd 0 r)) l 0) ∗ bigSepL steps fun r => dutyTok ER (cell c (snd 1 r)) l 0)
    ∗ ((bigSepL steps fun r => dutyTok ER (cell c (rcv 0 r)) l 0) ∗ bigSepL steps fun r => dutyTok ER (cell c (rcv 1 r)) l 0))
/-- The tokens of device `c`'s own cells. -/
def toks (c : Dev nD) : sProp 𝕄 :=
  iprop((bigSepL steps fun d => dutyTok ER (cell c bar) 0 d) ∗ layToks (F := F) c 0 ∗ layToks (F := F) c 1 ∗ layToks (F := F) c 2)

theorem layToks_eq (c : Dev nD) (l : ℕ) : (bigSep Finset.univ fun x : XIx => (dutyTok ER (cell c (some x)) l 0 : sProp 𝕄)) = layToks (F := F) c l :=
  bigSep_x _

theorem toks_eq : bigSep tokens (fun x => (dutyTok ER x.1 x.2.1 x.2.2 : sProp 𝕄)) = bigSep Finset.univ fun c : Dev nD => toks (F := F) c := by
  unfold tokens
  rw [bigSep_map, bigSep_univ_prod]
  refine bigSep_congr fun c _ => ?_
  rw [bigSep_univ_sum, bigSep_univ_prod, bigSep_steps, bigSep_univ_eq_bigSepL [(0 : Fin 3), 1, 2] (by decide) (by decide)]
  unfold toks
  rw [← layToks_eq, ← layToks_eq, ← layToks_eq]
  rfl

/-- The tokens of the transfers device `c` makes in layer `l`. -/
def pays (c : Dev nD) (l : ℕ) : sProp 𝕄 :=
  bigSepL steps fun r => iprop((dutyTok ER (cell c (snd 0 r)) l 0 ∗ dutyTok ER (cell (up c r) (rcv 0 r)) l 0)
    ∗ (dutyTok ER (cell c (snd 1 r)) l 0 ∗ dutyTok ER (cell (up c r) (rcv 1 r)) l 0))

/-- The tokens of what device `c` does. -/
def payToks (c : Dev nD) : sProp 𝕄 := iprop(hellos (F := F) c ∗ pays (F := F) c 0 ∗ pays (F := F) c 1 ∗ pays (F := F) c 2)

theorem pays_intro (c : Dev nD) (l : ℕ) :
    iprop(((bigSepL steps fun r => dutyTok ER (cell c (snd 0 r)) l 0) ∗ bigSepL steps fun r => dutyTok ER (cell c (snd 1 r)) l 0)
        ∗ ((bigSepL steps fun r => dutyTok ER (cell (up c r) (rcv 0 r)) l 0) ∗ bigSepL steps fun r => dutyTok ER (cell (up c r) (rcv 1 r)) l 0))
      ⊢ pays (F := F) c l := by
  unfold pays
  iintro ⟨⟨H0, H1⟩, H2, H3⟩
  iapply (bigSepL_both _ _ _).2
  isplitl [H0 H2]
  · iapply (bigSepL_both _ _ _).2; isplitl [H0] <;> iassumption
  · iapply (bigSepL_both _ _ _).2; isplitl [H1] <;> iassumption

theorem toks_around_layer (l : ℕ) : (bigSep Finset.univ fun c : Dev nD => layToks (F := F) c l) ⊢ bigSep Finset.univ fun c : Dev nD => pays (F := F) c l := by
  refine BIBase.Entails.trans (Entails.of_eq ?_) (bigSep_mono fun c _ => pays_intro (F := F) c l)
  unfold layToks
  rw [bigSep_sep', bigSep_sep', bigSep_sep', bigSep_sep', bigSep_sep', bigSep_sep',
    around (fun c r => (dutyTok ER (cell c (rcv 0 r)) l 0 : sProp 𝕄)), around (fun c r => (dutyTok ER (cell c (rcv 1 r)) l 0 : sProp 𝕄))]

theorem hellos_around : (bigSep Finset.univ fun c : Dev nD => bigSepL steps fun d => (dutyTok ER (cell c bar) 0 d : sProp 𝕄))
    = bigSep Finset.univ fun c : Dev nD => hellos (F := F) c := by
  unfold hellos
  rw [← around (fun c r => (dutyTok ER (cell c bar) 0 (rev r) : sProp 𝕄))]
  exact bigSep_congr fun c _ => (steps_rev (fun d => (dutyTok ER (cell c bar) 0 d : sProp 𝕄))).symm

theorem toks_around : (bigSep Finset.univ fun c : Dev nD => toks (F := F) c) ⊢ bigSep Finset.univ fun c : Dev nD => payToks (F := F) c := by
  unfold toks payToks
  rw [bigSep_sep', bigSep_sep', bigSep_sep', bigSep_sep', bigSep_sep', bigSep_sep', hellos_around]
  iintro ⟨H, H0, H1, H2⟩
  isplitl [H]; · iexact H
  isplitl [H0]; · iapply (toks_around_layer (F := F) _); iexact H0
  isplitl [H1]; · iapply (toks_around_layer (F := F) _); iexact H1
  iapply (toks_around_layer (F := F) _); iexact H2

/-! ## The launch element -/

def u₀ : UU :=
  (initOf (Pipeline.cells cfgs cellOf_inj) (Pipeline.launchToks cfgs cellOf_inj), initOf cells tokens)

/-- What the launch element deals device `c`. -/
def G (c : Dev nD) : sProp 𝕄 :=
  iprop((bigSep Finset.univ fun x : CIx => roundState ER (rd m) (cell c x) 0)
    ∗ (bigSep Finset.univ fun x : CIx => reached ER (cell c x) 0) ∗ (bigSep Finset.univ fun x : CIx => atPos ER (cell c x) 0 ∅ 0) ∗ toks (F := F) c)

/-- What the global step makes of it. -/
def G' (c : Dev nD) : sProp 𝕄 := iprop(∃ K, records m K ∗ (bigSep Finset.univ fun x : CIx => atPos ER (cell c x) 0 ∅ 0) ∗ payToks (F := F) c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun x : CIx => Φ (cell c x) := by
    unfold cells; rw [bigSep_map, bigSep_univ_prod]; rfl
  unfold G
  rw [bigSep_sep', bigSep_sep', bigSep_sep', ← toks_eq, ← hX fun g => roundState ER (rd m) g 0, ← hX fun g => atPos ER g 0 ∅ 0, ← hX fun g => reached ER g 0]
  exact Rounds.fund ER (rd m) cells tokens

/-! ## The global step -/

/-- The kernel's own semaphores: the transfer cells. -/
abbrev osem : XIx → SemLoc sig := fun x => csem (some x)

theorem unscopedSems0_eq (c : Dev nD) : (unscopedSems0 c : sProp 𝕄) = semVal (cell c bar) 0 := by
  unfold unscopedSems0; rw [bigSep_eq_bigSepL_of_eq [SemLoc.reg barSem] (by decide) (by decide)]; rfl

theorem sems0_eq (c : Dev nD) :
    (bigSep Finset.univ fun x : CIx => semVal (cell c x) 0 : sProp 𝕄)
      = iprop(unscopedSems0 c ∗ Pipeline.ownSems0 (Ix := ℕ) (Name := ℕ) (U := UU) (Lvl := ℕ) (Val := Elt F) (τ := τ) osem c) := by
  rw [bigSep_cix, unscopedSems0_eq]; rfl

/-- A device's part after its cells' invariants are made. -/
def G₁ (c : Dev nD) : sProp 𝕄 :=
  iprop((bigSep Finset.univ fun x : CIx => iprop(∃ κ : ℕ, cellInv ER (rd m) κ (cell c x)))
    ∗ (bigSep Finset.univ fun x : CIx => reached ER (cell c x) 0) ∗ (bigSep Finset.univ fun x : CIx => atPos ER (cell c x) 0 ∅ 0) ∗ toks (F := F) c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> G₁ m c := by
  unfold G G₁
  iintro ⟨Hos, Hus, Hst, H⟩
  ihave Hv := (Entails.of_eq (sems0_eq (F := F) c).symm) $$ [Hos Hus]
  · isplitl [Hus] <;> iassumption
  imod (show iprop((bigSep Finset.univ fun x : CIx => semVal (cell c x) 0) ∗ bigSep Finset.univ fun x : CIx => roundState ER (rd m) (cell c x) 0)
      ⊢ (|={Set.univ}=> bigSep Finset.univ fun x => iprop(∃ κ : ℕ, cellInv ER (rd m) κ (cell c x)) : sProp 𝕄) from by
        rw [← bigSep_sep']
        exact (bigSep_mono fun x _ => (Rounds.body_intro ER (rd m) (cell c x)).trans inv_alloc).trans (bigSep_fupd _ _)) $$ [Hv Hst] with Hinv
  · isplitl [Hv] <;> iassumption
  imodintro
  isplitl [Hinv]; · iexact Hinv
  iexact H

theorem ghost_intro (K : Dev nD × CIx → ℕ) (c : Dev nD) :
    iprop(records m K ∗ ((bigSep Finset.univ fun x : CIx => atPos ER (cell c x) 0 ∅ 0) ∗ payToks (F := F) c)) ⊢ G' m c := by
  unfold G'
  iintro H
  iexists K; iexact H

theorem regroup : bigSep Finset.univ (G₁ m) ⊢ bigSep Finset.univ (G' m) := by
  unfold G₁
  rw [bigSep_sep', bigSep_sep', bigSep_sep', ← bigSep_univ_prod (fun p : Dev nD × CIx => iprop(∃ κ : ℕ, cellInv ER (rd m) κ (cell p.1 p.2))),
    ← bigSep_univ_prod (fun p : Dev nD × CIx => (reached ER (cell p.1 p.2) 0 : sProp 𝕄))]
  iintro ⟨HI, #HR, Hat, Htok⟩
  ihave HK := (BI.bigSep_exists_pi Finset.univ (fun (p : Dev nD × CIx) (κ : ℕ) => (cellInv ER (rd m) κ (cell p.1 p.2) : sProp 𝕄))) $$ HI
  icases HK with ⟨%K, #HI⟩
  ihave Htk := (toks_around (F := F)) $$ Htok
  iapply (bigSep_with (R := records m K) (ghost_intro m K))
  isplitr
  · unfold records; isplitl; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cred_step (c : Dev nD) (x : CIx) (i n : ℕ) (r : Fin 15) :
    (Pipeline.launchCred (fun d : Dev nD => (tallyAt (cell (up d r) x) i n : CellTallies nD τ sig ℕ)) c : sProp 𝕄) ⊢ cred (tallyAt (cell c x) i n) := by
  refine BIBase.Entails.trans (Pipeline.launchCred_elim _ c (csem x)) (Entails.of_eq (congrArg _ ?_))
  show tallyOn (cell c x) _ = tallyOn (cell c x) _
  refine congrArg _ (Finsupp.ext fun j => ?_)
  rw [Pipeline.launchCredit_owing, Finset.sum_eq_single (dn c r)]
  · rw [up_dn, tallyAt_apply, Finsupp.single_apply]
    by_cases h : i = j
    · subst h; rw [if_pos ⟨rfl, rfl⟩, if_pos rfl]
    · rw [if_neg (fun h' => h h'.2.symm), if_neg h]
  · intro d _ hd
    rw [tallyAt_apply]
    exact if_neg fun h => hd (by rw [(cell_inj h.1).1, dn_up])
  · intro h; exact absurd (Finset.mem_univ _) h

theorem cred_steps (c : Dev nD) (x : Fin 15 → CIx) (i n : ℕ) : ∀ l : List (Fin 15),
    (Pipeline.launchCred (fun d : Dev nD => owed (fun r => tallyAt (cell (up d r) (x r)) i n) l) c : sProp 𝕄)
      ⊢ bigSepL l fun r => cred (tallyAt (cell c (x r)) i n)
  | [] => by
    rw [bigSepL_nil]; exact Entails.of_eq (Pipeline.launchCred_zero c)
  | r :: l => by
    rw [bigSepL_cons']
    iintro H
    ihave H := (show (Pipeline.launchCred (fun d : Dev nD => owed (fun r => tallyAt (cell (up d r) (x r)) i n) (r :: l)) c : sProp 𝕄) ⊢ _ from
      Entails.of_eq (Pipeline.launchCred_add (fun d : Dev nD => owed (fun r => tallyAt (cell (up d r) (x r)) i n) l)
        (fun d => tallyAt (cell (up d r) (x r)) i n) c)) $$ H
    icases H with ⟨HL, H⟩
    isplitl [H]; · iapply (cred_step (F := F) c (x r) i n r); iexact H
    iapply (cred_steps c x i n l); iexact HL

theorem cred_join (g : GSem nD τ sig) (i : ℕ) : ∀ l : List (Fin 15), (bigSepL l fun _ => (cred (tallyAt g i 1) : sProp 𝕄)) ⊢ cred (tallyAt g i l.length)
  | [] => by
    rw [bigSepL_nil, List.length_nil, tallyAt_zero, cred_zero]; exact .rfl
  | _ :: l => by
    rw [bigSepL_cons', List.length_cons, ← tallyAt_add]
    iintro ⟨H, HL⟩
    iapply (cred_add _ _).2
    isplitl [HL]; · iapply (cred_join g i l); iexact HL
    iexact H

theorem cred_layer (c : Dev nD) {l : ℕ} (hl : l < 3) :
    (Pipeline.launchCred (fun d : Dev nD => owedFrom d l) c : sProp 𝕄)
      ⊢ iprop(Pipeline.launchCred (fun d : Dev nD => owedFrom d (l + 1)) c
          ∗ (bigSepL steps fun r => iprop(cred (tallyAt (cell c (rcv 0 r)) l N) ∗ cred (tallyAt (cell c (rcv 1 r)) l N)))) := by
  rw [show (fun d : Dev nD => owedFrom d l) = fun d => (owedFrom d (l + 1) + owed (owesX d 1 l) steps) + owed (owesX d 0 l) steps from
    funext fun d => owedFrom_step d hl, Pipeline.launchCred_add, Pipeline.launchCred_add]
  iintro ⟨⟨H, H1⟩, H0⟩
  isplitl [H]; · iexact H
  iapply (bigSepL_both _ _ _).2
  isplitl [H0]
  · iapply (cred_steps (F := F) c (fun r => rcv 0 r) l N steps); iexact H0
  · iapply (cred_steps (F := F) c (fun r => rcv 1 r) l N steps); iexact H1

theorem creds (c : Dev nD) : (Pipeline.launchCred owedAll c : sProp 𝕄)
    ⊢ iprop(cred (tallyAt (cell c bar) 0 15)
      ∗ (bigSepL steps fun r => iprop(cred (tallyAt (cell c (rcv 0 r)) 0 N) ∗ cred (tallyAt (cell c (rcv 1 r)) 0 N)))
      ∗ (bigSepL steps fun r => iprop(cred (tallyAt (cell c (rcv 0 r)) 1 N) ∗ cred (tallyAt (cell c (rcv 1 r)) 1 N)))
      ∗ (bigSepL steps fun r => iprop(cred (tallyAt (cell c (rcv 0 r)) 2 N) ∗ cred (tallyAt (cell c (rcv 1 r)) 2 N)))) := by
  iintro H
  ihave H := (show (Pipeline.launchCred owedAll c : sProp 𝕄) ⊢ _ from Entails.of_eq (Pipeline.launchCred_add (fun d : Dev nD => owedFrom d 0) (fun d => owed (owesBar d) steps) c)) $$ H
  icases H with ⟨H, Hb⟩
  isplitl [Hb]
  · iapply (cred_join (F := F) (cell c bar) 0 steps)
    iapply (cred_steps (F := F) c (fun _ => bar) 0 1 steps); iexact Hb
  ihave H := (cred_layer (F := F) c (l := 0) (by omega)) $$ H
  icases H with ⟨H, H0⟩
  isplitl [H0]; · iexact H0
  ihave H := (cred_layer (F := F) c (l := 1) (by omega)) $$ H
  icases H with ⟨H, H1⟩
  isplitl [H1]; · iexact H1
  ihave H := (cred_layer (F := F) c (l := 2) (by omega)) $$ H
  icases H with ⟨-, H2⟩
  iexact H2

theorem means_intro (c : Dev nD) (l : ℕ) :
    iprop(pays (F := F) c l ∗ bigSepL steps fun r => iprop(cred (tallyAt (cell c (rcv 0 r)) l N) ∗ cred (tallyAt (cell c (rcv 1 r)) l N)))
      ⊢ bigSepL steps (means (F := F) c l) := by
  unfold pays
  refine BIBase.Entails.trans (bigSepL_both _ _ _).2 (bigSepL_mono fun r _ => ?_)
  unfold means
  iintro ⟨⟨H0, H1⟩, H2⟩
  isplitl [H0]; · iexact H0
  isplitl [H1]; · iexact H1
  iexact H2

end Cert.Mlp
-- ==== Proof.Launch.lean ====
/-
# The whole run

Sixteen devices launched with zero counters: the kernel ends, every result array holds the computed contents, the arguments
are unchanged and every counter is zero.
-/
module

public import proofs.«01_k».proof.Proof.Deal
public import Idealize.ShloMosaic.Lib.Pipeline.CollectiveSegs
public import Idealize.ShloMosaic.Lib.Pipeline.ValueKit

@[expose] public section

noncomputable section

namespace Cert.Mlp

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## Side conditions -/

set_option maxRecDepth 8000 in
theorem ownSemFacts : Pipeline.OwnSemFacts cfg0.spec osem where
  isScoped := by decide +kernel
  inj := fun x y h => Option.some.inj (csem_inj h)
  disj := by decide +kernel

theorem share_eq (c : Dev nD) (w : Fin cfg0.W) : (dats m ρ 0 c).share w = fullShare := by unfold Dat.share; split <;> rfl

theorem stage_sem : ∀ (w : Fin cfg0.W) (s : Fin (cfg0.win w).nbuf) (x : CIx), csem x ≠ .dma ((cfg0.win w).sem s) := by decide +kernel

theorem lv_stage (c : Dev nD) (w : Fin cfg0.W) (s : Fin (cfg0.win w).nbuf) : lv ((c : Thread nD τ), .dma ((cfg0.win w).sem s)) 0 = 0 := by
  unfold lv; dsimp only; rw [decode_none (stage_sem w s)]

theorem waits (c : Dev nD) : (levAts L lv : sProp 𝕄) ⊢ Pipeline.cellsWaits cfgs (dats m ρ) 0 0 c :=
  Pipeline.cellsWaits_intro cfgs (dats m ρ) 0 0 c fun w s t =>
    mayWait (F := F) c (.dma ((cfg0.win w).sem s)) 0 (by omega) _ (by
      rw [lv_stage c w s]
      rcases t with ⟨_ | _, ht⟩
      · exact above_all c
      · exact Above.zero 0)

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ emp) := by
  iintro ⟨-, Hlev, Hcr, -, HG⟩
  ihave Hc := (creds (F := F) c) $$ Hcr
  icases Hc with ⟨Hcb, Hc0, Hc1, Hc2⟩
  imodintro
  isplitl
  · unfold start begun G' payToks ctx
    icases HG with ⟨%K, HR, Hat, Hh, Hp0, Hp1, Hp2⟩
    iexists K
    isplitl [HR Hlev]
    · isplitl [HR] <;> iassumption
    isplitl [Hat]; · iexact Hat
    isplitl [Hcb]; · iexact Hcb
    isplitl [Hh]; · iexact Hh
    isplitl [Hp0 Hc0]
    · iapply (means_intro (F := F) c 0); isplitl [Hp0] <;> iassumption
    isplitl [Hp1 Hc1]
    · iapply (means_intro (F := F) c 1); isplitl [Hp1] <;> iassumption
    iapply (means_intro (F := F) c 2); isplitl [Hp2] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [sems0_eq]
  iintro ⟨Hr, Hb, Hz⟩
  isplitl [Hb]; · iexact Hb
  isplitl [Hz]; · iexact Hz
  iexact Hr

/-! ## The run -/

/-- What window `w`'s array holds at the end. -/
def finalA (c : Dev nD) (w : Fin cfg0.W) : Buf (Elt F) ((cfg0.win w).arr.view.loc (c : Thread nD τ)) := (dats m ρ 0 c).arrAt w cfg0.N

set_option maxRecDepth 65536 in
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments come out of the run as they went in. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

/-- The result array holds the gathered rows of the last layer. -/
theorem finalA_out (c : Dev nD) : finalA m ρ c (7 : Fin 8) = outVal m := by
  refine (dats m ρ 0 c).arrAt_eq_of_after_last (7 : Fin 8) t0_0 (by decide +kernel) _ fun j => ?_
  blk_simp
  rfl

end Cert.Mlp
-- ==== Proof.Value.lean ====
/-
# The value, over the extended reals

Read over the extended reals, a device's product in a layer is `max (x · W) 0 · V` with its own 512 columns of `W` and
512 rows of `V` (`product_eq`). The gathered sums are the sum of the sixteen products (`gather_eq`), and a sum over
sixteen blocks of 512 is the sum over all 8192 (`sum_blocks`); so three layers on sixteen devices are three layers on
one (`gather_part`). Addition of extended reals is commutative and associative everywhere, infinities included, so none
of this asks the arguments to be finite.
-/
module

public import proofs.«01_k».proof.Proof.Vocab
public import proofs.«01_k».proof.Proof.Gen.ReferenceIdeal.Run
public import Idealize.ShloMosaic.Lib.Pointwise
public import Idealize.ShloMosaic.Lib.Layout

@[expose] public section

noncomputable section

namespace Cert.Mlp

open Idealize.ShloMosaic Idealize.ShloMosaic.TcCoe Idealize.SL.Sem

/-! ## The mathematics -/

/-- Element `(i, j)` of `max (x · W) 0 · V`, with `n` columns of `W` and rows of `V`. -/
def mlp {n : ℕ} (x : Fin 256 → Fin 256 → EReal) (W : Fin 256 → Fin n → EReal) (V : Fin n → Fin 256 → EReal)
    (i j : Fin 256) : EReal :=
  ∑ k : Fin n, max (∑ l : Fin 256, x i l * W l k) 0 * V k j

/-- Column or row `q` of block `c`. -/
def blockAt (c : Fin 16) (q : Fin 512) : Fin 8192 := ⟨c.val * 512 + q.val, by omega⟩

theorem sum_blocks (h : Fin 8192 → EReal) : ∑ c : Fin 16, ∑ q : Fin 512, h (blockAt c q) = ∑ k : Fin 8192, h k := by
  rw [← Finset.sum_product', Finset.univ_product_univ]
  refine Fintype.sum_equiv (finProdFinEquiv.trans (finCongr rfl)) _ _ fun p => ?_
  refine congrArg h (Fin.ext ?_)
  show p.1.val * 512 + p.2.val = p.2.val + 512 * p.1.val
  omega

theorem mlp_blocks (x : Fin 256 → Fin 256 → EReal) (W : Fin 256 → Fin 8192 → EReal) (V : Fin 8192 → Fin 256 → EReal)
    (i j : Fin 256) :
    ∑ c : Fin 16, mlp x (fun l q => W l (blockAt c q)) (fun q j => V (blockAt c q) j) i j = mlp x W V i j :=
  sum_blocks fun k => max (∑ l : Fin 256, x i l * W l k) 0 * V k j

/-! ## The reference -/

namespace Ref

open Cert.ReferenceIdeal Cert.ReferenceIdeal.Gen

/-- One layer of the reference, as its operations spell it. -/
def layer (x : FVec Ideal S256x256 .f32) (W : FVec Ideal S256x8192 .f32) (V : FVec Ideal S8192x256 .f32) :
    FVec Ideal S256x256 .f32 :=
  Host.dotGeneral dot_S256x8192_S8192x256_S256x256_1_0_0_1_n_n none
    (maximumf (Host.dotGeneral dot_S256x256_S256x8192_S256x8192_1_0_0_1_n_n none x W)
      (broadcastInDim S256x8192 ![] bcast_S_S256x8192 (constant S_ .f32 0x00000000#32))) V

theorem layer_apply (x : FVec Ideal S256x256 .f32) (W : FVec Ideal S256x8192 .f32) (V : FVec Ideal S8192x256 .f32)
    (i j : Fin 256) :
    layer x W V (ix2 i j) = mlp (fun i l => x (ix2 i l)) (fun l k => W (ix2 l k)) (fun k j => V (ix2 k j)) i j := by
  unfold layer; pointwise
  rfl

end Ref

open Cert.KernelIdeal Cert.KernelIdeal.Gen

theorem dn_sub : ∀ (c : Dev nD) (r : Fin 15), dn c r = (c - r.succ : Fin 16) := by decide +kernel

/-- One device's term first, then the others' going down, is the sum over all. -/
theorem sum_around (c : Dev nD) (g : Dev nD → EReal) : g c + ∑ r : Fin 15, g (dn c r) = ∑ d : Dev nD, g d := by
  have h : ∑ k : Fin 16, g (c - k : Fin 16) = ∑ d : Fin 16, g d := Equiv.sum_comp (Equiv.subLeft (c : Fin 16)) g
  refine Eq.trans ?_ ((Fin.sum_univ_succ fun k : Fin 16 => g (c - k : Fin 16)).symm.trans h)
  refine congrArg₂ (· + ·) (congrArg g (sub_zero (c : Fin 16)).symm) (Finset.sum_congr rfl fun r _ => ?_)
  rw [dn_sub]

/-! ## The kernel -/

/-- A device's product: the two matrix products with the maximum between them, over its own block of the weights. -/
theorem product_eq (x : Vec Ideal S256x256 .f32) (wi : Vec Ideal S256x512 .f32) (wo : Vec Ideal S512x256 .f32) (i j : Fin 256) :
    k0_pay1 x wi wo (ix2 i j) = mlp (fun i l => x (ix2 i l)) (fun l q => wi (ix2 l q)) (fun q j => wo (ix2 q j)) i j := by
  pointwise [k0_pay1]
  rfl

/-- The later layers' product is the first's, of the gathered sums. -/
theorem later_eq (x : Vec Ideal S256x256 .bf16) (wi : Vec Ideal S256x512 .f32) (wo : Vec Ideal S512x256 .f32) (i j : Fin 256) :
    k0_pay14 x wi wo (ix2 i j) = mlp (fun i l => x (ix2 i l)) (fun l q => wi (ix2 l q)) (fun q j => wo (ix2 q j)) i j := by
  pointwise [k0_pay14]
  rfl

theorem addPart_apply (a : FVec Ideal S16x256 .f32) (v : Vec Ideal S1x16x256 .bf16) (i : Fin 16) (j : Fin 256) :
    addPart a v (ix2 i j) = a (ix2 i j) + v (ix3 0 i j) := by
  unfold addPart; pointwise

theorem sumOut_apply (a : FVec Ideal S16x256 .f32) (i : Fin 16) (j : Fin 256) : sumOut a (ix2 i j) = a (ix2 i j) := by
  unfold sumOut; pointwise

theorem sums_apply (f : Fin 15 → Vec Ideal S1x16x256 .bf16) (i : Fin 16) (j : Fin 256) (l : List (Fin 15)) :
    ∀ a : FVec Ideal S16x256 .f32,
      l.foldl (fun a r => addPart a (f r)) a (ix2 i j) = a (ix2 i j) + (l.map fun r => f r (ix3 0 i j)).sum := by
  induction l with
  | nil => exact fun a => (add_zero _).symm
  | cons r l ih => exact fun a => by rw [List.foldl_cons, ih, addPart_apply, List.map_cons, List.sum_cons, add_assoc]

theorem sumRows_apply (P : Dev nD → S256x256.Idx → Elt Ideal .bf16) (c : Dev nD) (i : Fin 16) (j : Fin 256) :
    sumRows P c (ix2 i j) = ∑ d : Dev nD, P d (rowAt c (ix2 i j)) := by
  refine Eq.trans ?_ (sum_around c fun d => P d (rowAt c (ix2 i j)))
  unfold sumRows
  rw [sumOut_apply, sums_apply, ← List.sum_ofFn]
  rfl

/-- The gathered sums: every element is the sum of the sixteen products there. -/
theorem gather_eq (P : Dev nD → S256x256.Idx → Elt Ideal .bf16) (i : S256x256.Idx) : gather P i = ∑ d : Dev nD, P d i := by
  unfold gather
  refine (sumRows_apply P _ _ _).trans ?_
  refine Finset.sum_congr rfl fun d _ => congrArg (P d) ?_
  funext a
  refine Fin.ext ?_
  match a with
  | ⟨0, _⟩ => exact (rowAt_0 _ _).trans (Nat.div_add_mod _ 16)
  | ⟨1, _⟩ => exact rowAt_1 _ _

/-! ## Layers -/

/-- The columns of a layer's first weight that device `c` holds. -/
abbrev inBlock (c : Dev nD) (W : FVec Ideal ⟨2, ![256, 8192]⟩ .f32) : Vec Ideal S256x512 .f32 :=
  Layout.block ⟨2, ![256, 512]⟩ ⟨2, ![256, 8192]⟩ 1 16 c W
/-- The rows of a layer's second weight that device `c` holds. -/
abbrev outBlock (c : Dev nD) (V : FVec Ideal ⟨2, ![8192, 256]⟩ .f32) : Vec Ideal S512x256 .f32 :=
  Layout.block ⟨2, ![512, 256]⟩ ⟨2, ![8192, 256]⟩ 0 16 c V

/-- Where a device's products are those of its blocks of the weights, the gathered sums are the reference's layer. -/
theorem layer_eq (P : Dev nD → S256x256.Idx → Elt Ideal .bf16) (x : FVec Ideal S256x256 .f32)
    (W : FVec Ideal ⟨2, ![256, 8192]⟩ .f32) (V : FVec Ideal ⟨2, ![8192, 256]⟩ .f32)
    (hP : ∀ (c : Dev nD) (i j : Fin 256), P c (ix2 i j) = mlp (fun i l => x (ix2 i l))
      (fun l q => inBlock c W (ix2 l q)) (fun q j => outBlock c V (ix2 q j)) i j) :
    gather P = Ref.layer x W V := by
  funext i
  obtain ⟨a, b, rfl⟩ : ∃ a b : Fin 256, i = ix2 a b := ⟨i 0, i 1, eq_ix2 i⟩
  refine ((gather_eq P _).trans ?_).trans (Ref.layer_apply x W V a b).symm
  rw [← mlp_blocks]
  refine Finset.sum_congr rfl fun c _ => (hP c _ _).trans ?_
  refine congrArg₂ (fun W V => mlp _ W V _ _) ?_ ?_
  · funext l q
    refine congrArg W ?_
    funext a
    match a with
    | ⟨0, _⟩ => rfl
    | ⟨1, _⟩ => rfl
  · funext q j
    refine congrArg V ?_
    funext a
    match a with
    | ⟨0, _⟩ => rfl
    | ⟨1, _⟩ => rfl

section Memory
variable (m : (ℓ : Loc nD τ sig) → Buf (Elt Ideal) ℓ)

/-- The kernel's staging buffers hold its arguments whole. -/
theorem operand_eq (c : Dev nD) :
    xIn m c = m ((c : Thread nD τ).loc main_arg0)
    ∧ wIn m c 0 = m ((c : Thread nD τ).loc main_arg1) ∧ wOut m c 0 = m ((c : Thread nD τ).loc main_arg2)
    ∧ wIn m c 1 = m ((c : Thread nD τ).loc main_arg3) ∧ wOut m c 1 = m ((c : Thread nD τ).loc main_arg4)
    ∧ wIn m c 2 = m ((c : Thread nD τ).loc main_arg5) ∧ wOut m c 2 = m ((c : Thread nD τ).loc main_arg6) := by
  refine ⟨?_, ?_, ?_, ?_, ?_, ?_, ?_⟩
  · exact Memref.read_access_unit_zero (Elt Ideal) main_arg0 (funext fun a => by fin_cases a <;> decide) _ _
  · exact Memref.read_access_unit_zero (Elt Ideal) main_arg1 (funext fun a => by fin_cases a <;> decide) _ _
  · exact Memref.read_access_unit_zero (Elt Ideal) main_arg2 (funext fun a => by fin_cases a <;> decide) _ _
  · exact Memref.read_access_unit_zero (Elt Ideal) main_arg3 (funext fun a => by fin_cases a <;> decide) _ _
  · exact Memref.read_access_unit_zero (Elt Ideal) main_arg4 (funext fun a => by fin_cases a <;> decide) _ _
  · exact Memref.read_access_unit_zero (Elt Ideal) main_arg5 (funext fun a => by fin_cases a <;> decide) _ _
  · exact Memref.read_access_unit_zero (Elt Ideal) main_arg6 (funext fun a => by fin_cases a <;> decide) _ _

variable (x : FVec Ideal S256x256 .f32) (W : ℕ → FVec Ideal ⟨2, ![256, 8192]⟩ .f32) (V : ℕ → FVec Ideal ⟨2, ![8192, 256]⟩ .f32)

/-- The reference's value after each layer. -/
def refAfter : ℕ → FVec Ideal S256x256 .f32
  | 0 => Ref.layer x (W 0) (V 0)
  | i + 1 => Ref.layer (refAfter i) (W (i + 1)) (V (i + 1))

theorem gather_part (hx : ∀ c, xIn m c = x) (hW : ∀ c i, wIn m c i = inBlock c (W i)) (hV : ∀ c i, wOut m c i = outBlock c (V i)) :
    ∀ i, gather (part m i) = refAfter x W V i
  | 0 => layer_eq _ _ _ _ fun c i j => by
      show k0_pay1 (xIn m c) (wIn m c 0) (wOut m c 0) (ix2 i j) = _
      rw [hx, hW, hV]; exact product_eq _ _ _ i j
  | l + 1 => layer_eq _ _ _ _ fun c i j => by
      show k0_pay14 (gather (part m l)) (wIn m c (l + 1)) (wOut m c (l + 1)) (ix2 i j) = _
      rw [gather_part hx hW hV l, hW, hV]; exact later_eq _ _ _ i j

end Memory

end Cert.Mlp
-- ==== Proof.Same.lean ====
/-
The program as written

The program as written and its idealized text are the same text. `written_body_eq` says that the written body is the
looped program too, so that both programs define one kernel (`written_defs_eq`).
-/
module

public import proofs.«01_k».proof.Proof.Loops
public import proofs.«01_k».proof.Proof.Gen.Kernel

@[expose] public section

noncomputable section

namespace Cert.Mlp

open Idealize.ShloMosaic Idealize.SL.Sem

variable {F : FTy → Type} [FloatOps F]

set_option maxRecDepth 65536 in
theorem written_body_eq (arg0 harg0 arg1 harg1 arg2 harg2 arg3 harg3 arg4 harg4 arg5 harg5 arg6 harg6 arg7 harg7 arg8 harg8 arg9 harg9 arg10 harg10 arg11 arg12) :
    Cert.Kernel.cc0_body (F := F) arg0 harg0 arg1 harg1 arg2 harg2 arg3 harg3 arg4 harg4 arg5 harg5 arg6 harg6 arg7 harg7 arg8 harg8 arg9 harg9 arg10 harg10 arg11 arg12
      = body arg0 arg1 arg2 arg3 arg4 arg5 arg6 arg7 arg8 harg8 arg9 harg9 arg10 harg10 arg11 arg12 := by
  sl_kernel_rfl

/-- Both programs run their launch with one kernel. -/
theorem written_defs_eq : Cert.Kernel.defs₀ (F := F) = Cert.KernelIdeal.defs₀ := by
  refine congrArg Defs.onTc (funext fun l => funext fun a => ?_)
  match l, a with
  | 0, (t, s) => exact (written_body_eq ..).trans (body_eq ..).symm
  | ⟨_ + 1, h⟩, _ => exact absurd h (Nat.not_lt.2 (Nat.le_add_left _ _))

end Cert.Mlp
-- ==== Proof.Runs.lean ====
/-
# The runs, read

The kernel's run with its arguments and its result read (`kernel_run`), for any float values; and the three claims that
follow from a run: both spellings of the kernel and the reference end with their arguments unchanged and every counter
at zero, and at the extended reals the kernel's result is the reference's on every device (`same_value`).
-/
module

public import proofs.«01_k».proof.Defs
public import proofs.«01_k».proof.Proof.Launch
public import proofs.«01_k».proof.Proof.Value
public import proofs.«01_k».proof.Proof.Same
public import proofs.«01_k».proof.Proof.Gen.Kernel
public import Idealize.ShloMosaic.Lib.Quiescent

@[expose] public section

noncomputable section

namespace Cert.Mlp

open Cert.KernelIdeal Cert.KernelIdeal.Gen
open Idealize.ShloMosaic Idealize.ShloMosaic.TcCoe Idealize.SL.Sem

variable {F : FTy → Type} [FloatOps F]

/-- The kernel's run: every device ends with the gathered rows of the last layer as its result, its arguments as they
    were and every counter at zero. -/
theorem kernel_run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v1) = outVal m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun _ h => ⟨fun c => ⟨(h.1 c (7 : Fin 8)).trans (finalA_out m ρ c),
      (h.1 c (0 : Fin 8)).trans (finalA_in m ρ c (0 : Fin 8) rfl),
      (h.1 c (1 : Fin 8)).trans (finalA_in m ρ c (1 : Fin 8) rfl),
      (h.1 c (2 : Fin 8)).trans (finalA_in m ρ c (2 : Fin 8) rfl),
      (h.1 c (3 : Fin 8)).trans (finalA_in m ρ c (3 : Fin 8) rfl),
      (h.1 c (4 : Fin 8)).trans (finalA_in m ρ c (4 : Fin 8) rfl),
      (h.1 c (5 : Fin 8)).trans (finalA_in m ρ c (5 : Fin 8) rfl),
      (h.1 c (6 : Fin 8)).trans (finalA_in m ρ c (6 : Fin 8) rfl)⟩, h.2⟩)
    (run_main m ρ)

/-- Its arguments alone. -/
theorem kernel_args (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun _ h => ⟨fun c => (h.1 c).2, h.2⟩) (kernel_run m ρ)

theorem frame_ideal : Cert.quiescent_KernelIdeal := fun m ρ _ => kernel_args m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the extended reals every device's result is the reference's. -/
theorem same_value : Cert.algebraic_KernelIdeal_ReferenceIdeal := fun m ρ m' ρ' _ hm => by
  have h := fun c => operand_eq m c
  have hx : ∀ c, xIn m c = m' (((0 : Dev Cert.ReferenceIdeal.nD).tc : Thread Cert.ReferenceIdeal.nD Cert.ReferenceIdeal.τ).loc Cert.ReferenceIdeal.main_arg0) :=
    fun c => (h c).1.trans (hm c).1
  have hv := gather_part m (m' (((0 : Dev Cert.ReferenceIdeal.nD).tc : Thread Cert.ReferenceIdeal.nD Cert.ReferenceIdeal.τ).loc Cert.ReferenceIdeal.main_arg0))
    (fun
      | 0 => m' (((0 : Dev Cert.ReferenceIdeal.nD).tc : Thread Cert.ReferenceIdeal.nD Cert.ReferenceIdeal.τ).loc Cert.ReferenceIdeal.main_arg1)
      | 1 => m' (((0 : Dev Cert.ReferenceIdeal.nD).tc : Thread Cert.ReferenceIdeal.nD Cert.ReferenceIdeal.τ).loc Cert.ReferenceIdeal.main_arg3)
      | _ => m' (((0 : Dev Cert.ReferenceIdeal.nD).tc : Thread Cert.ReferenceIdeal.nD Cert.ReferenceIdeal.τ).loc Cert.ReferenceIdeal.main_arg5))
    (fun
      | 0 => m' (((0 : Dev Cert.ReferenceIdeal.nD).tc : Thread Cert.ReferenceIdeal.nD Cert.ReferenceIdeal.τ).loc Cert.ReferenceIdeal.main_arg2)
      | 1 => m' (((0 : Dev Cert.ReferenceIdeal.nD).tc : Thread Cert.ReferenceIdeal.nD Cert.ReferenceIdeal.τ).loc Cert.ReferenceIdeal.main_arg4)
      | _ => m' (((0 : Dev Cert.ReferenceIdeal.nD).tc : Thread Cert.ReferenceIdeal.nD Cert.ReferenceIdeal.τ).loc Cert.ReferenceIdeal.main_arg6))
    hx
    (fun c i => match i with
      | 0 => (h c).2.1.trans (hm c).2.1
      | 1 => (h c).2.2.2.1.trans (hm c).2.2.2.1
      | _ + 2 => (h c).2.2.2.2.2.1.trans (hm c).2.2.2.2.2.1)
    (fun c i => match i with
      | 0 => (h c).2.2.1.trans (hm c).2.2.1
      | 1 => (h c).2.2.2.2.1.trans (hm c).2.2.2.2.1
      | _ + 2 => (h c).2.2.2.2.2.2.trans (hm c).2.2.2.2.2.2)
    2
  refine ⟨outVal m, (θ_run defs _ _).mono (fun _ h => h.1) (kernel_run m ρ), ?_⟩
  refine (θ_run Cert.ReferenceIdeal.defs _ _).mono (fun r h => ⟨(h 0).1.trans ?_, (h 0).2⟩) (Cert.ReferenceIdeal.Value.run (F := Ideal) m' ρ')
  exact hv.symm

/-- The kernel as written is the same program: its run is the run above, at machine floats. -/
theorem frame_kernel : Cert.quiescent_Kernel := by
  intro m ρ _
  have h : Cert.Kernel.defs (F := Bits) = Cert.KernelIdeal.defs := congrArg (Pipeline.defs pcfgs) written_defs_eq
  have r := kernel_args (F := Bits) m ρ
  rw [← h] at r
  exact r

end Cert.Mlp
-- ==== Proof.lean ====
/-
# The claim

The claim's five parts, each proved in `Proof/Runs.lean`: the three frames and the equality of the kernel's result with
the reference's. The printed programs are the same text, so the fourth part (no rewrite changed a value) asks nothing.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Runs
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Mlp.frame_kernel, Cert.Mlp.frame_ideal, Cert.Mlp.frame_reference, trivial, Cert.Mlp.same_value⟩

end Cert.Proof

end
